-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x256x128 : Shape := ⟨3, ![128, 256, 128]⟩
abbrev S128x256x256x4 : Shape := ⟨4, ![128, 256, 256, 4]⟩
abbrev S128x256x256 : Shape := ⟨3, ![128, 256, 256]⟩
abbrev S128x32 : Shape := ⟨2, ![128, 32]⟩
abbrev S4x1 : Shape := ⟨2, ![4, 1]⟩
abbrev S1 : Shape := ⟨1, ![1]⟩
abbrev S256x128 : Shape := ⟨2, ![256, 128]⟩
abbrev S128 : Shape := ⟨1, ![128]⟩
abbrev S256x64 : Shape := ⟨2, ![256, 64]⟩
abbrev S64 : Shape := ⟨1, ![64]⟩
abbrev S64x64 : Shape := ⟨2, ![64, 64]⟩
abbrev S96x128 : Shape := ⟨2, ![96, 128]⟩
abbrev S128x64 : Shape := ⟨2, ![128, 64]⟩
abbrev S64x1 : Shape := ⟨2, ![64, 1]⟩
abbrev S128x256x2x128x4 : Shape := ⟨5, ![128, 256, 2, 128, 4]⟩
abbrev S128x256x2x4x128 : Shape := ⟨5, ![128, 256, 2, 4, 128]⟩
abbrev S128x2048x128 : Shape := ⟨3, ![128, 2048, 128]⟩
abbrev S4x128 : Shape := ⟨2, ![4, 128]⟩
abbrev S1x1 : Shape := ⟨2, ![1, 1]⟩
abbrev S1x128 : Shape := ⟨2, ![1, 128]⟩
abbrev S1x64 : Shape := ⟨2, ![1, 64]⟩
abbrev S128x1 : Shape := ⟨2, ![128, 1]⟩
abbrev S16x2048x128 : Shape := ⟨3, ![16, 2048, 128]⟩
abbrev S16x256x256 : Shape := ⟨3, ![16, 256, 256]⟩
abbrev S16x256x128 : Shape := ⟨3, ![16, 256, 128]⟩
abbrev S1x256x128 : Shape := ⟨3, ![1, 256, 128]⟩
abbrev S1x256x256 : Shape := ⟨3, ![1, 256, 256]⟩
abbrev S256x256 : Shape := ⟨2, ![256, 256]⟩
abbrev S128x96 : Shape := ⟨2, ![128, 96]⟩
abbrev S128x128 : Shape := ⟨2, ![128, 128]⟩

abbrev nBuf : Space → Nat
  | .hbm => 30
  | .vmem => 23
  | .smem => 0
  | _ => 0

abbrev bufTy : (tb : Table) → Fin (tcTables nBuf tb) → BufTy
  | .hbm, ⟨0, _⟩ => ⟨S128x256x128, .f32⟩
  | .hbm, ⟨1, _⟩ => ⟨S128x256x256x4, .f32⟩
  | .hbm, ⟨2, _⟩ => ⟨S128x256x256, .f32⟩
  | .hbm, ⟨3, _⟩ => ⟨S128x32, .f32⟩
  | .hbm, ⟨4, _⟩ => ⟨S4x1, .f32⟩
  | .hbm, ⟨5, _⟩ => ⟨S1, .f32⟩
  | .hbm, ⟨6, _⟩ => ⟨S256x128, .f32⟩
  | .hbm, ⟨7, _⟩ => ⟨S128, .f32⟩
  | .hbm, ⟨8, _⟩ => ⟨S256x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S96x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S128x256x2x128x4, .f32⟩
  | .hbm, ⟨19, _⟩ => ⟨S128x256x2x4x128, .f32⟩
  | .hbm, ⟨20, _⟩ => ⟨S128x2048x128, .f32⟩
  | .hbm, ⟨21, _⟩ => ⟨S4x128, .f32⟩
  | .hbm, ⟨22, _⟩ => ⟨S1x1, .f32⟩
  | .hbm, ⟨23, _⟩ => ⟨S1x128, .f32⟩
  | .hbm, ⟨24, _⟩ => ⟨S1x64, .f32⟩
  | .hbm, ⟨25, _⟩ => ⟨S1x64, .f32⟩
  | .hbm, ⟨26, _⟩ => ⟨S1x128, .f32⟩
  | .hbm, ⟨27, _⟩ => ⟨S1x64, .f32⟩
  | .hbm, ⟨28, _⟩ => ⟨S1x1, .f32⟩
  | .hbm, ⟨29, _⟩ => ⟨S128x1, .f32⟩
  | .local _ .vmem, ⟨0, _⟩ => ⟨S16x2048x128, .f32⟩
  | .local _ .vmem, ⟨1, _⟩ => ⟨S16x2048x128, .f32⟩
  | .local _ .vmem, ⟨2, _⟩ => ⟨S16x256x256, .f32⟩
  | .local _ .vmem, ⟨3, _⟩ => ⟨S16x256x256, .f32⟩
  | .local _ .vmem, ⟨4, _⟩ => ⟨S16x256x128, .f32⟩
  | .local _ .vmem, ⟨5, _⟩ => ⟨S16x256x128, .f32⟩
  | .local _ .vmem, ⟨6, _⟩ => ⟨S4x128, .f32⟩
  | .local _ .vmem, ⟨7, _⟩ => ⟨S1x1, .f32⟩
  | .local _ .vmem, ⟨8, _⟩ => ⟨S256x128, .f32⟩
  | .local _ .vmem, ⟨9, _⟩ => ⟨S1x128, .f32⟩
  | .local _ .vmem, ⟨10, _⟩ => ⟨S256x64, .f32⟩
  | .local _ .vmem, ⟨11, _⟩ => ⟨S1x64, .f32⟩
  | .local _ .vmem, ⟨12, _⟩ => ⟨S128x32, .f32⟩
  | .local _ .vmem, ⟨13, _⟩ => ⟨S64x64, .f32⟩
  | .local _ .vmem, ⟨14, _⟩ => ⟨S1x64, .f32⟩
  | .local _ .vmem, ⟨15, _⟩ => ⟨S96x128, .f32⟩
  | .local _ .vmem, ⟨16, _⟩ => ⟨S1x128, .f32⟩
  | .local _ .vmem, ⟨17, _⟩ => ⟨S128x64, .f32⟩
  | .local _ .vmem, ⟨18, _⟩ => ⟨S1x64, .f32⟩
  | .local _ .vmem, ⟨19, _⟩ => ⟨S64x1, .f32⟩
  | .local _ .vmem, ⟨20, _⟩ => ⟨S1x1, .f32⟩
  | .local _ .vmem, ⟨21, _⟩ => ⟨S128x1, .f32⟩
  | .local _ .vmem, ⟨22, _⟩ => ⟨S128x64, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c16_i32 : BitVec 32 := 16#32
  let v91 : BitVec 32 := Scalar.muli arg0 c16_i32
  let v92 : BitVec 32 := Scalar.addi v91 c0_i32
  let v93 : Index := Scalar.indexCast v92
  let c0_49 : Index := 0#32
  ![v93.toNat, 0]
def k0_cond1 (i : grid0.Coords) : BitVec 1 :=
  let arg0 : BitVec 32 := BitVec.ofNat 32 (i 0).val
  let c7_i32_942 : BitVec 32 := 7#32
  let v1552 : BitVec 1 := Scalar.cmpi .eq arg0 c7_i32_942
  let v1553 : BitVec 32 := Scalar.extui v1552
  let c0_i32_943 : BitVec 32 := 0#32
  let v1554 : BitVec 1 := Scalar.cmpi .ne v1553 c0_i32_943
  v1554

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S96x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S128x256x128 : Shape := ⟨3, ![128, 256, 128]⟩
abbrev S128x256x256x4 : Shape := ⟨4, ![128, 256, 256, 4]⟩
abbrev S128x256x256 : Shape := ⟨3, ![128, 256, 256]⟩
abbrev S128x32 : Shape := ⟨2, ![128, 32]⟩
abbrev S4x1 : Shape := ⟨2, ![4, 1]⟩
abbrev S1 : Shape := ⟨1, ![1]⟩
abbrev S256x128 : Shape := ⟨2, ![256, 128]⟩
abbrev S128 : Shape := ⟨1, ![128]⟩
abbrev S256x64 : Shape := ⟨2, ![256, 64]⟩
abbrev S64 : Shape := ⟨1, ![64]⟩
abbrev S64x64 : Shape := ⟨2, ![64, 64]⟩
abbrev S96x128 : Shape := ⟨2, ![96, 128]⟩
abbrev S128x64 : Shape := ⟨2, ![128, 64]⟩
abbrev S64x1 : Shape := ⟨2, ![64, 1]⟩
abbrev S128x256x256x1 : Shape := ⟨4, ![128, 256, 256, 1]⟩
abbrev S_ : Shape := ⟨0, ![]⟩
abbrev S1x1x128 : Shape := ⟨3, ![1, 1, 128]⟩
abbrev S128x256x64 : Shape := ⟨3, ![128, 256, 64]⟩
abbrev S1x1x64 : Shape := ⟨3, ![1, 1, 64]⟩
abbrev S1x64 : Shape := ⟨2, ![1, 64]⟩
abbrev S128x96 : Shape := ⟨2, ![128, 96]⟩
abbrev S128x128 : Shape := ⟨2, ![128, 128]⟩
abbrev S1x128 : Shape := ⟨2, ![1, 128]⟩
abbrev S128x1 : Shape := ⟨2, ![128, 1]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256x256x4, .f32⟩
  | .hbm, ⟨2, _⟩ => ⟨S128x256x256, .f32⟩
  | .hbm, ⟨3, _⟩ => ⟨S128x32, .f32⟩
  | .hbm, ⟨4, _⟩ => ⟨S4x1, .f32⟩
  | .hbm, ⟨5, _⟩ => ⟨S1, .f32⟩
  | .hbm, ⟨6, _⟩ => ⟨S256x128, .f32⟩
  | .hbm, ⟨7, _⟩ => ⟨S128, .f32⟩
  | .hbm, ⟨8, _⟩ => ⟨S256x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S96x128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S128x256x256x1, .f32⟩
  | .hbm, ⟨19, _⟩ => ⟨S128x256x256, .f32⟩
  | .hbm, ⟨20, _⟩ => ⟨S_, .f32⟩
  | .hbm, ⟨21, _⟩ => ⟨S128x256x256, .f32⟩
  | .hbm, ⟨22, _⟩ => ⟨S128x256x256, .f32⟩
  | .hbm, ⟨23, _⟩ => ⟨S128x256x256, .f32⟩
  | .hbm, ⟨24, _⟩ => ⟨S128x256x256, .f32⟩
  | .hbm, ⟨25, _⟩ => ⟨S_, .f32⟩
  | .hbm, ⟨26, _⟩ => ⟨S128x256x256, .f32⟩
  | .hbm, ⟨27, _⟩ => ⟨S128x256x256, .f32⟩
  | .hbm, ⟨28, _⟩ => ⟨S_, .f32⟩
  | .hbm, ⟨29, _⟩ => ⟨S128x256x256, .f32⟩
  | .hbm, ⟨30, _⟩ => ⟨S128x256x256, .f32⟩
  | .hbm, ⟨31, _⟩ => ⟨S128x256x256, .f32⟩
  | .hbm, ⟨32, _⟩ => ⟨S128x256x128, .f32⟩
  | .hbm, ⟨33, _⟩ => ⟨S128x256x256, .f32⟩
  | .hbm, ⟨34, _⟩ => ⟨S128x256x128, .f32⟩
  | .hbm, ⟨35, _⟩ => ⟨S1x1x128, .f32⟩
  | .hbm, ⟨36, _⟩ => ⟨S128x256x128, .f32⟩
  | .hbm, ⟨37, _⟩ => ⟨S128x256x128, .f32⟩
  | .hbm, ⟨38, _⟩ => ⟨S_, .f32⟩
  | .hbm, ⟨39, _⟩ => ⟨S128x256x128, .f32⟩
  | .hbm, ⟨40, _⟩ => ⟨S128x256x128, .f32⟩
  | .hbm, ⟨41, _⟩ => ⟨S128x256x128, .f32⟩
  | .hbm, ⟨42, _⟩ => ⟨S128x256x256, .f32⟩
  | .hbm, ⟨43, _⟩ => ⟨S128x256x64, .f32⟩
  | .hbm, ⟨44, _⟩ => ⟨S1x1x64, .f32⟩
  | .hbm, ⟨45, _⟩ => ⟨S128x256x64, .f32⟩
  | .hbm, ⟨46, _⟩ => ⟨S128x256x64, .f32⟩
  | .hbm, ⟨47, _⟩ => ⟨S_, .f32⟩
  | .hbm, ⟨48, _⟩ => ⟨S128x256x64, .f32⟩
  | .hbm, ⟨49, _⟩ => ⟨S128x256x64, .f32⟩
  | .hbm, ⟨50, _⟩ => ⟨S_, .f32⟩
  | .hbm, ⟨51, _⟩ => ⟨S128x64, .f32⟩
  | .hbm, ⟨52, _⟩ => ⟨S_, .f32⟩
  | .hbm, ⟨53, _⟩ => ⟨S128x64, .f32⟩
  | .hbm, ⟨54, _⟩ => ⟨S128x64, .f32⟩
  | .hbm, ⟨55, _⟩ => ⟨S128x64, .f32⟩
  | .hbm, ⟨56, _⟩ => ⟨S1x64, .f32⟩
  | .hbm, ⟨57, _⟩ => ⟨S128x64, .f32⟩
  | .hbm, ⟨58, _⟩ => ⟨S128x64, .f32⟩
  | .hbm, ⟨59, _⟩ => ⟨S128x96, .f32⟩
  | .hbm, ⟨60, _⟩ => ⟨S128x128, .f32⟩
  | .hbm, ⟨61, _⟩ => ⟨S1x128, .f32⟩
  | .hbm, ⟨62, _⟩ => ⟨S128x128, .f32⟩
  | .hbm, ⟨63, _⟩ => ⟨S128x128, .f32⟩
  | .hbm, ⟨64, _⟩ => ⟨S_, .f32⟩
  | .hbm, ⟨65, _⟩ => ⟨S128x128, .f32⟩
  | .hbm, ⟨66, _⟩ => ⟨S128x128, .f32⟩
  | .hbm, ⟨67, _⟩ => ⟨S128x64, .f32⟩
  | .hbm, ⟨68, _⟩ => ⟨S1x64, .f32⟩
  | .hbm, ⟨69, _⟩ => ⟨S128x64, .f32⟩
  | .hbm, ⟨70, _⟩ => ⟨S128x64, .f32⟩
  | .hbm, ⟨71, _⟩ => ⟨S_, .f32⟩
  | .hbm, ⟨72, _⟩ => ⟨S128x64, .f32⟩
  | .hbm, ⟨73, _⟩ => ⟨S128x64, .f32⟩
  | .hbm, ⟨74, _⟩ => ⟨S128x1, .f32⟩
  | .hbm, ⟨75, _⟩ => ⟨S1x1, .f32⟩
  | .hbm, ⟨76, _⟩ => ⟨S128x1, .f32⟩
  | .hbm, ⟨77, _⟩ => ⟨S128x1, .f32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call0_cst : Ref sig .tc := ⟨.hbm, 38, rfl⟩
abbrev main_call0_v0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_cst : Ref sig .tc := ⟨.hbm, 47, rfl⟩
abbrev main_call1_v0 : Ref sig .tc := ⟨.hbm, 48, rfl⟩
abbrev main_v25 : Ref sig .tc := ⟨.hbm, 49, rfl⟩
abbrev main_cst_1 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_call2_cst : Ref sig .tc := ⟨.hbm, 64, rfl⟩
abbrev main_call2_v0 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call3_cst : Ref sig .tc := ⟨.hbm, 71, rfl⟩
abbrev main_call3_v0 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩

abbrev nD : Nat := 1
abbrev τ : Topo := Topo.v7x

variable {F : FTy → Type} [FloatOps F]
-- ==== Proof.Encoder.lean ====
/- The value of one grid point of the kernel, as plain functions of the arrays it loads: the gated adjacency matrix of
   one graph, its two message-passing layers, the mean over its nodes, and the critic head over all graphs. -/
module

public import proofs.«01_k».proof.Proof.Gen.KernelIdeal.Skeleton

@[expose] public section

set_option maxRecDepth 16384

noncomputable section

namespace Cert.KernelIdeal.Encoder

open Cert.KernelIdeal Cert.KernelIdeal.Gen
open Idealize.ShloMosaic Idealize.SL.Sem

variable {F : FTy → Type} [FloatOps F]

/-! ## Loads of one graph -/

/-- Rows `o, o + 8, o + 16, …` of graph `g` of the edge block are in range when `g < 16` and `o < 8`. -/
theorem edges_inb {g o : ℕ} (hg : g < 16) (ho : o < 8) :
    ∀ a, S1x256x128.size a = 0 ∨ (![g, o, 0] : Fin 3 → ℕ) a + (![1, 8, 1] : Fin 3 → ℕ) a * (S1x256x128.size a - 1) < S16x2048x128.size a := by
  intro a
  right
  fin_cases a <;> simp [S1x256x128, S16x2048x128] <;> omega

/-- Row `k` of the edge weights is in range when `k < 4`. -/
theorem weight_inb {k : ℕ} (hk : k < 4) : ∀ a, (![k, 0] : Fin 2 → ℕ) a + S1x128.size a ≤ S4x128.size a := by
  intro a
  fin_cases a <;> simp [S1x128, S4x128] <;> omega

/-- Graph `g` of the adjacency block is in range when `g < 16`. -/
theorem adjacency_inb {g : ℕ} (hg : g < 16) : ∀ a, (![g, 0, 0] : Fin 3 → ℕ) a + S1x256x256.size a ≤ S16x256x256.size a := by
  intro a
  fin_cases a <;> simp [S1x256x256, S16x256x256] <;> omega

/-- Graph `g` of the node block is in range when `g < 16`. -/
theorem nodes_inb {g : ℕ} (hg : g < 16) : ∀ a, (![g, 0, 0] : Fin 3 → ℕ) a + S1x256x128.size a ≤ S16x256x128.size a := by
  intro a
  fin_cases a <;> simp [S1x256x128, S16x256x128] <;> omega

/-- Rows `o, o + 8, …` of graph `g` of the edge block. -/
def edgesAt (x : Vec F S16x2048x128 .f32) (g o : ℕ) (hg : g < 16) (ho : o < 8) : FVec F S256x128 .f32 :=
  shapeCast S256x128 (fun j => x ((⟨![g, o, 0], S1x256x128.size, ![1, 8, 1], edges_inb hg ho⟩ : LoadRect S16x2048x128).idx j) : Vec F S1x256x128 .f32)
    shapeCasts_S1x256x128_S256x128

/-- Row `k` of the edge weights, over all 256 nodes. -/
def weightAt (x : Vec F S4x128 .f32) (k : ℕ) (hk : k < 4) : FVec F S256x128 .f32 :=
  broadcastTo S256x128
    (shapeCast S1x128 (fun j => x ((Rect.unit (s := S4x128) ![k, 0] S1x128.size (weight_inb hk)).toLoadRect.idx j) : Vec F S1x128 .f32) shapeCasts_S1x128_S1x128)
    broadcasts_S1x128_S256x128

/-- The adjacency matrix of graph `g`. -/
def adjacencyAt (x : Vec F S16x256x256 .f32) (g : ℕ) (hg : g < 16) : FVec F S256x256 .f32 :=
  shapeCast S256x256 (fun j => x ((Rect.unit (s := S16x256x256) ![g, 0, 0] S1x256x256.size (adjacency_inb hg)).toLoadRect.idx j) : Vec F S1x256x256 .f32)
    shapeCasts_S1x256x256_S256x256

/-- The node features of graph `g`. -/
def nodesAt (x : Vec F S16x256x128 .f32) (g : ℕ) (hg : g < 16) : FVec F S256x128 .f32 :=
  shapeCast S256x128 (fun j => x ((Rect.unit (s := S16x256x128) ![g, 0, 0] S1x256x128.size (nodes_inb hg)).toLoadRect.idx j) : Vec F S1x256x128 .f32)
    shapeCasts_S1x256x128_S256x128

/-- A whole load of a rank-2 array. -/
def whole2 {d : Fin 2 → ℕ} (x : Vec F ⟨2, d⟩ .f32) (h : ∀ a, (![0, 0] : Fin 2 → ℕ) a + d a ≤ d a) : Vec F ⟨2, d⟩ .f32 :=
  fun j => x ((Rect.unit (s := ⟨2, d⟩) ![0, 0] d h).toLoadRect.idx j)

/-! ## One graph -/

/-- The gate logits of graph `g` over one half of the columns, `o = 0` the left and `o = 4` the right half, without the
    bias: the sum over the four edge features of feature times weight, from zero. -/
def logits (x0 : Vec F S16x2048x128 .f32) (x3 : Vec F S4x128 .f32) (g o : ℕ) (hg : g < 16) (ho : o + 3 < 8) : FVec F S256x128 .f32 :=
  addf (addf (addf (addf (broadcast S256x128 (Scalar.ofBits .f32 0x00000000#32))
    (mulf (edgesAt x0 g o hg (by omega)) (weightAt x3 0 (by omega))))
    (mulf (edgesAt x0 g (o + 1) hg (by omega)) (weightAt x3 1 (by omega))))
    (mulf (edgesAt x0 g (o + 2) hg (by omega)) (weightAt x3 2 (by omega))))
    (mulf (edgesAt x0 g (o + 3) hg (by omega)) (weightAt x3 3 (by omega)))

/-- One half of the gated adjacency matrix: that half of the adjacency times the logistic of logits plus bias. -/
def gatedHalf (adj : FVec F S256x128 .f32) (l : FVec F S256x128 .f32) (x4 : Vec F S1x1 .f32) : FVec F S256x128 .f32 :=
  mulf adj (logistic (addf l (broadcast S256x128 (extractAt ![0, 0] (whole2 x4 inb_S1x1_S1x1_0_0) inpos_S1x1_p0_0))))

/-- The gated adjacency matrix of graph `g`: its two halves side by side. -/
def gated (x0 : Vec F S16x2048x128 .f32) (x1 : Vec F S16x256x256 .f32) (x3 : Vec F S4x128 .f32) (x4 : Vec F S1x1 .f32)
    (g : ℕ) (hg : g < 16) : FVec F S256x256 .f32 :=
  concatenate S256x256 1
    [⟨S256x128, gatedHalf (extractStridedSlice S256x128 ![0, 0] (adjacencyAt x1 g hg) slices_S256x256_o0_0_S256x128) (logits x0 x3 g 0 hg (by omega)) x4⟩,
     ⟨S256x128, gatedHalf (extractStridedSlice S256x128 ![0, 128] (adjacencyAt x1 g hg) slices_S256x256_o0_128_S256x128) (logits x0 x3 g 4 hg (by omega)) x4⟩]
    concatenates_S256x128_S256x128_S256x256_d1

/-- The features beside the messages: `[h, a h]`. -/
def beside (a : FVec F S256x256 .f32) (h : FVec F S256x128 .f32) : FVec F S256x256 .f32 :=
  concatenate S256x256 1
    [⟨S256x128, h⟩,
     ⟨S256x128, matmul dot_S256x256_S256x128_S256x128_1_0_0_1_n_n none a h (constant S256x128 .f32 0x00000000#32)⟩]
    concatenates_S256x128_S256x128_S256x256_d1

/-- The first layer: `relu ([h, a h] W1 + b1)`. -/
def layer1 (a : FVec F S256x256 .f32) (h : FVec F S256x128 .f32) (x5 : Vec F S256x128 .f32) (x6 : Vec F S1x128 .f32) : FVec F S256x128 .f32 :=
  maximumf
    (addf (matmul dot_S256x256_S256x128_S256x128_1_0_0_1_n_n none (beside a h) (whole2 x5 inb_S256x128_S256x128_0_0) (constant S256x128 .f32 0x00000000#32))
      (broadcastTo S256x128 (shapeCast S1x128 (whole2 x6 inb_S1x128_S1x128_0_0) shapeCasts_S1x128_S1x128) broadcasts_S1x128_S256x128))
    (broadcast S256x128 (Scalar.ofBits .f32 0x00000000#32))

/-- The second layer: `relu ([h, a h] W2 + b2)`. -/
def layer2 (a : FVec F S256x256 .f32) (h : FVec F S256x128 .f32) (x7 : Vec F S256x64 .f32) (x8 : Vec F S1x64 .f32) : FVec F S256x64 .f32 :=
  maximumf
    (addf (matmul dot_S256x256_S256x64_S256x64_1_0_0_1_n_n none (beside a h) (whole2 x7 inb_S256x64_S256x64_0_0) (constant S256x64 .f32 0x00000000#32))
      (broadcastTo S256x64 (shapeCast S1x64 (whole2 x8 inb_S1x64_S1x64_0_0) shapeCasts_S1x64_S1x64) broadcasts_S1x64_S256x64))
    (broadcast S256x64 (Scalar.ofBits .f32 0x00000000#32))

/-- The readout: the sum over the nodes times 1/256, a row. -/
def readout (h : FVec F S256x64 .f32) : FVec F S1x64 .f32 :=
  shapeCast S1x64
    (mulf (shapeCast S1x64 (multiReduction .add [0] S64 h 0x00000000#32 reduces_S256x64_S64 (.inl rfl) rfl) shapeCasts_S64_S1x64)
      (broadcast S1x64 (Scalar.ofBits .f32 0x3B800000#32)))
    shapeCasts_S1x64_S1x64

/-- What the kernel stores for graph `g` of a block of 16: the readout of its second layer. -/
def graphRow (x0 : Vec F S16x2048x128 .f32) (x1 : Vec F S16x256x256 .f32) (x2 : Vec F S16x256x128 .f32) (x3 : Vec F S4x128 .f32)
    (x4 : Vec F S1x1 .f32) (x5 : Vec F S256x128 .f32) (x6 : Vec F S1x128 .f32) (x7 : Vec F S256x64 .f32) (x8 : Vec F S1x64 .f32)
    (g : ℕ) (hg : g < 16) : FVec F S1x64 .f32 :=
  readout (layer2 (gated x0 x1 x3 x4 g hg)
    (layer1 (gated x0 x1 x3 x4 g hg) (nodesAt x2 g hg) x5 x6) x7 x8)

/-! ## All graphs -/

/-- The critic head on the array of all graphs' readouts, from its ten operands. -/
def critic (y : Vec F S128x64 .f32) (x9 : Vec F S128x32 .f32) (x10 : Vec F S64x64 .f32) (x11 : Vec F S1x64 .f32)
    (x12 : Vec F S96x128 .f32) (x13 : Vec F S1x128 .f32) (x14 : Vec F S128x64 .f32) (x15 : Vec F S1x64 .f32)
    (x16 : Vec F S64x1 .f32) (x17 : Vec F S1x1 .f32) : FVec F S128x1 .f32 :=
  k0_pay2 y (whole2 x10 inb_S64x64_S64x64_0_0) (whole2 x11 inb_S1x64_S1x64_0_0) (whole2 x9 inb_S128x32_S128x32_0_0)
    (whole2 x12 inb_S96x128_S96x128_0_0) (whole2 x13 inb_S1x128_S1x128_0_0) (whole2 x14 inb_S128x64_S128x64_0_0)
    (whole2 x15 inb_S1x64_S1x64_0_0) (whole2 x16 inb_S64x1_S64x1_0_0) (whole2 x17 inb_S1x1_S1x1_0_0)

/-- A whole load reads the array. -/
theorem whole2_eq {d : Fin 2 → ℕ} (x : Vec F ⟨2, d⟩ .f32) (h : ∀ a, (![0, 0] : Fin 2 → ℕ) a + d a ≤ d a) : whole2 x h = x := by
  funext j
  unfold whole2
  congr 1
  funext a
  apply Fin.ext
  fin_cases a <;> simp [LoadRect.idx, Rect.unit]

end Cert.KernelIdeal.Encoder

end
-- ==== Proof.Reference.lean ====
/- The reference's result, layer by layer, as plain functions of its argument arrays, and its run's composed term as their
   composition. -/
module

public import proofs.«01_k».proof.Proof.Gen.ReferenceIdeal.Run

@[expose] public section

set_option maxRecDepth 16384

noncomputable section

namespace Cert.ReferenceIdeal.Layers

open Cert.ReferenceIdeal Cert.ReferenceIdeal.Gen
open Idealize.ShloMosaic Idealize.ShloMosaic.TcCoe Idealize.SL.Sem

variable {F : FTy → Type} [FloatOps F]

/-- The gate logits: edge features times edge weights, plus the edge bias. -/
def logits (edges : FVec F S128x256x256x4 .f32) (we : FVec F S4x1 .f32) (be : FVec F S1 .f32) : FVec F S128x256x256 .f32 :=
  addf (shapeCast S128x256x256 (Host.dotGeneral dot_S128x256x256x4_S4x1_S128x256x256x1_3_0_012_1_n_n none edges we) shapeCasts_S128x256x256x1_S128x256x256)
    (broadcastInDim S128x256x256 ![] bcast_S_S128x256x256 (shapeCast S_ be shapeCasts_S1_S_))

/-- The gated adjacency: adjacency times `1 / (1 + exp (-logits))`. -/
def gated (edges : FVec F S128x256x256x4 .f32) (adj : FVec F S128x256x256 .f32) (we : FVec F S4x1 .f32) (be : FVec F S1 .f32) :
    FVec F S128x256x256 .f32 :=
  mulf adj (Host.divf (broadcastInDim S128x256x256 ![] bcast_S_S128x256x256 (constant S_ .f32 0x3F800000#32))
    (addf (broadcastInDim S128x256x256 ![] bcast_S_S128x256x256 (constant S_ .f32 0x3F800000#32)) (Host.exp (Host.negf (logits edges we be)))))

/-- The features beside the messages. -/
def beside (a : FVec F S128x256x256 .f32) (h : FVec F S128x256x128 .f32) : FVec F S128x256x256 .f32 :=
  concatenate S128x256x256 2
    [⟨S128x256x128, h⟩, ⟨S128x256x128, Host.dotGeneral dot_S128x256x256_S128x256x128_S128x256x128_2_1_1_2_0_0 none a h⟩]
    concatenates_S128x256x128_S128x256x128_S128x256x256_d2

/-- The first message-passing layer. -/
def layer1 (a : FVec F S128x256x256 .f32) (h : FVec F S128x256x128 .f32) (w : FVec F S256x128 .f32) (b : FVec F S128 .f32) :
    FVec F S128x256x128 .f32 :=
  maximumf
    (addf (Host.dotGeneral dot_S128x256x256_S256x128_S128x256x128_2_0_01_1_n_n none (beside a h) w)
      (broadcastInDim S128x256x128 ![0, 1, 2] bcast_S1x1x128_S128x256x128_0_1_2 (broadcastInDim S1x1x128 ![2] bcast_S128_S1x1x128_2 b)))
    (broadcastInDim S128x256x128 ![] bcast_S_S128x256x128 (constant S_ .f32 0x00000000#32))

/-- The second message-passing layer. -/
def layer2 (a : FVec F S128x256x256 .f32) (h : FVec F S128x256x128 .f32) (w : FVec F S256x64 .f32) (b : FVec F S64 .f32) :
    FVec F S128x256x64 .f32 :=
  maximumf
    (addf (Host.dotGeneral dot_S128x256x256_S256x64_S128x256x64_2_0_01_1_n_n none (beside a h) w)
      (broadcastInDim S128x256x64 ![0, 1, 2] bcast_S1x1x64_S128x256x64_0_1_2 (broadcastInDim S1x1x64 ![2] bcast_S64_S1x1x64_2 b)))
    (broadcastInDim S128x256x64 ![] bcast_S_S128x256x64 (constant S_ .f32 0x00000000#32))

/-- The readout: the mean over the nodes. -/
def readout (h : FVec F S128x256x64 .f32) : FVec F S128x64 .f32 :=
  Host.divf (Host.reduceAdd h (constant S_ .f32 0x00000000#32) reducesTo_S128x256x64_S128x64_d1 h_S_)
    (broadcastInDim S128x64 ![] bcast_S_S128x64 (constant S_ .f32 0x43800000#32))

/-- All graphs' readouts. -/
def readouts (nodes : FVec F S128x256x128 .f32) (edges : FVec F S128x256x256x4 .f32) (adj : FVec F S128x256x256 .f32)
    (we : FVec F S4x1 .f32) (be : FVec F S1 .f32) (w1 : FVec F S256x128 .f32) (b1 : FVec F S128 .f32)
    (w2 : FVec F S256x64 .f32) (b2 : FVec F S64 .f32) : FVec F S128x64 .f32 :=
  readout (layer2 (gated edges adj we be) (layer1 (gated edges adj we be) nodes w1 b1) w2 b2)

/-- The embeddings: readouts times output weights, plus the output bias. -/
def embeddings (g : FVec F S128x64 .f32) (wo : FVec F S64x64 .f32) (bo : FVec F S64 .f32) : FVec F S128x64 .f32 :=
  addf (Host.dotGeneral dot_S128x64_S64x64_S128x64_1_0_0_1_n_n none g wo)
    (broadcastInDim S128x64 ![0, 1] bcast_S1x64_S128x64_0_1 (broadcastInDim S1x64 ![1] bcast_S64_S1x64_1 bo))

/-- The first critic layer, on embeddings beside actions. -/
def critic1 (e : FVec F S128x64 .f32) (actions : FVec F S128x32 .f32) (w : FVec F S96x128 .f32) (b : FVec F S128 .f32) : FVec F S128x128 .f32 :=
  maximumf
    (addf (Host.dotGeneral dot_S128x96_S96x128_S128x128_1_0_0_1_n_n none
        (concatenate S128x96 1 [⟨S128x64, e⟩, ⟨S128x32, actions⟩] concatenates_S128x64_S128x32_S128x96_d1) w)
      (broadcastInDim S128x128 ![0, 1] bcast_S1x128_S128x128_0_1 (broadcastInDim S1x128 ![1] bcast_S128_S1x128_1 b)))
    (broadcastInDim S128x128 ![] bcast_S_S128x128 (constant S_ .f32 0x00000000#32))

/-- The second critic layer. -/
def critic2 (x : FVec F S128x128 .f32) (w : FVec F S128x64 .f32) (b : FVec F S64 .f32) : FVec F S128x64 .f32 :=
  maximumf
    (addf (Host.dotGeneral dot_S128x128_S128x64_S128x64_1_0_0_1_n_n none x w)
      (broadcastInDim S128x64 ![0, 1] bcast_S1x64_S128x64_0_1 (broadcastInDim S1x64 ![1] bcast_S64_S1x64_1 b)))
    (broadcastInDim S128x64 ![] bcast_S_S128x64 (constant S_ .f32 0x00000000#32))

/-- The value head. -/
def value (x : FVec F S128x64 .f32) (w : FVec F S64x1 .f32) (b : FVec F S1 .f32) : FVec F S128x1 .f32 :=
  addf (Host.dotGeneral dot_S128x64_S64x1_S128x1_1_0_0_1_n_n none x w)
    (broadcastInDim S128x1 ![0, 1] bcast_S1x1_S128x1_0_1 (broadcastInDim S1x1 ![1] bcast_S1_S1x1_1 b))

/-- The critic head on all graphs' readouts. -/
def critic (g : FVec F S128x64 .f32) (actions : FVec F S128x32 .f32) (wo : FVec F S64x64 .f32) (bo : FVec F S64 .f32)
    (wc1 : FVec F S96x128 .f32) (bc1 : FVec F S128 .f32) (wc2 : FVec F S128x64 .f32) (bc2 : FVec F S64 .f32)
    (wv : FVec F S64x1 .f32) (bv : FVec F S1 .f32) : FVec F S128x1 .f32 :=
  value (critic2 (critic1 (embeddings g wo bo) actions wc1 bc1) wc2 bc2) wv bv

variable (m : (ℓ : Loc nD τ sig) → Buf (Elt F) ℓ) (c : Dev nD)

/-- The run's result is the critic head of the readouts. -/
theorem result_eq : Value.res_main_v47 m c
    = critic (readouts (m ((c.tc : Thread nD τ).loc main_arg0)) (m ((c.tc : Thread nD τ).loc main_arg1)) (m ((c.tc : Thread nD τ).loc main_arg2))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)))
        (m ((c.tc : Thread nD τ).loc main_arg3)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14))
        (m ((c.tc : Thread nD τ).loc main_arg15)) (m ((c.tc : Thread nD τ).loc main_arg16)) (m ((c.tc : Thread nD τ).loc main_arg17)) := by
  unfold Value.res_main_v47 critic value critic2 critic1 embeddings readouts readout layer2 layer1 beside gated logits
  rfl

end Cert.ReferenceIdeal.Layers

end
-- ==== Proof.Pure.lean ====
/- The kernel's functions of one graph and of all graphs against the reference's layers, index by index over the extended
   reals: equal operands give equal layers. -/
module

public import proofs.«01_k».proof.Proof.Encoder
public import proofs.«01_k».proof.Proof.Reference
public import Idealize.ShloMosaic.Lib.Pointwise
public import Idealize.ShloMosaic.Lib.IdealHost
public import Idealize.ShloMosaic.Lib.ValueIdx

@[expose] public section

set_option maxRecDepth 16384

noncomputable section

namespace Cert.KernelIdeal.Pure

open Cert.KernelIdeal Cert.KernelIdeal.Gen Cert.KernelIdeal.Encoder
open Idealize.ShloMosaic Idealize.SL.Sem

/-! ## Constants -/

/-- The constant 1/256. -/
theorem ofBits_recip : Ideal.ofBits .f32 0x3B800000#32 = ((1 / 256 : ℝ) : EReal) := by
  simp [Ideal.ofBits, Ideal.ieee, -EReal.coe_mul]; norm_num

/-- The constant 256. -/
theorem ofBits_256 : Ideal.ofBits .f32 0x43800000#32 = ((256 : ℝ) : EReal) := by
  simp [Ideal.ofBits, Ideal.ieee, -EReal.coe_mul]; norm_num

/-! ## The loads at an index -/

/-- A load of graph `g`'s edge rows, at an index. -/
theorem edgesAt_apply (x : FVec Ideal S16x2048x128 .f32) (g o : ℕ) (hg : g < 16) (ho : o < 8) (n : Fin 256) (l : Fin 128) :
    edgesAt x g o hg ho (ix2 n l) = x (ix3 ⟨g, hg⟩ ⟨n.val * 8 + o, by omega⟩ l) := by
  pointwise [edgesAt]
  have e : o + 8 * n.val = n.val * 8 + o := by omega
  simp only [e]

/-- A row of the edge weights, at an index. -/
theorem weightAt_apply (x : FVec Ideal S4x128 .f32) (k : ℕ) (hk : k < 4) (n : Fin 256) (l : Fin 128) :
    weightAt x k hk (ix2 n l) = x (ix2 ⟨k, hk⟩ l) := by
  pointwise [weightAt]

/-- Graph `g`'s adjacency, at an index. -/
theorem adjacencyAt_apply (x : FVec Ideal S16x256x256 .f32) (g : ℕ) (hg : g < 16) (n j : Fin 256) :
    adjacencyAt x g hg (ix2 n j) = x (ix3 ⟨g, hg⟩ n j) := by
  pointwise [adjacencyAt]

/-- Graph `g`'s node features, at an index. -/
theorem nodesAt_apply (x : FVec Ideal S16x256x128 .f32) (g : ℕ) (hg : g < 16) (n : Fin 256) (l : Fin 128) :
    nodesAt x g hg (ix2 n l) = x (ix3 ⟨g, hg⟩ n l) := by
  pointwise [nodesAt]

/-! ## The layers -/

variable (G : Fin 128)

/-- Equal features and adjacency give the same first layer. -/
theorem layer1_eq (a : FVec Ideal S256x256 .f32) (h : FVec Ideal S256x128 .f32) (w : FVec Ideal S256x128 .f32) (b : FVec Ideal S1x128 .f32)
    (A : FVec Ideal Cert.ReferenceIdeal.S128x256x256 .f32) (H : FVec Ideal Cert.ReferenceIdeal.S128x256x128 .f32)
    (B : FVec Ideal Cert.ReferenceIdeal.S128 .f32)
    (ha : ∀ n j, a (ix2 n j) = A (ix3 G n j)) (hh : ∀ n d, h (ix2 n d) = H (ix3 G n d)) (hb : ∀ d, b (ix2 0 d) = B (ix1 d))
    (n : Fin 256) (d : Fin 128) :
    layer1 a h w b (ix2 n d) = Cert.ReferenceIdeal.Layers.layer1 A H w B (ix3 G n d) := by
  pointwise [layer1, whole2_eq, beside, Cert.ReferenceIdeal.Layers.layer1, Cert.ReferenceIdeal.Layers.beside]
  simp only [ha, hh, hb]

/-- Equal features and adjacency give the same second layer. -/
theorem layer2_eq (a : FVec Ideal S256x256 .f32) (h : FVec Ideal S256x128 .f32) (w : FVec Ideal S256x64 .f32) (b : FVec Ideal S1x64 .f32)
    (A : FVec Ideal Cert.ReferenceIdeal.S128x256x256 .f32) (H : FVec Ideal Cert.ReferenceIdeal.S128x256x128 .f32)
    (B : FVec Ideal Cert.ReferenceIdeal.S64 .f32)
    (ha : ∀ n j, a (ix2 n j) = A (ix3 G n j)) (hh : ∀ n d, h (ix2 n d) = H (ix3 G n d)) (hb : ∀ d, b (ix2 0 d) = B (ix1 d))
    (n : Fin 256) (d : Fin 64) :
    layer2 a h w b (ix2 n d) = Cert.ReferenceIdeal.Layers.layer2 A H w B (ix3 G n d) := by
  pointwise [layer2, whole2_eq, beside, Cert.ReferenceIdeal.Layers.layer2, Cert.ReferenceIdeal.Layers.beside]
  simp only [ha, hh, hb]

/-- The mean over the nodes of equal features is the same. -/
theorem readout_eq (h : FVec Ideal S256x64 .f32) (H : FVec Ideal Cert.ReferenceIdeal.S128x256x64 .f32)
    (hh : ∀ n d, h (ix2 n d) = H (ix3 G n d)) (d : Fin 64) :
    readout h (ix2 0 d) = Cert.ReferenceIdeal.Layers.readout H (ix2 G d) := by
  pointwise [readout, Cert.ReferenceIdeal.Layers.readout]
  rw [ofBits_256, ofBits_recip, Ideal.div_coe (by norm_num)]
  simp only [hh]

/-- Equal edges and adjacency give the same gated adjacency. -/
theorem gated_eq (x0 : FVec Ideal S16x2048x128 .f32) (x1 : FVec Ideal S16x256x256 .f32) (x3 : FVec Ideal S4x128 .f32) (x4 : FVec Ideal S1x1 .f32)
    (g : ℕ) (hg : g < 16)
    (E : FVec Ideal Cert.ReferenceIdeal.S128x256x256x4 .f32) (A : FVec Ideal Cert.ReferenceIdeal.S128x256x256 .f32)
    (We : FVec Ideal Cert.ReferenceIdeal.S4x1 .f32) (Be : FVec Ideal Cert.ReferenceIdeal.S1 .f32)
    (he : ∀ (n j : Fin 256) (k : Fin 4),
      x0 (ix3 ⟨g, hg⟩ ⟨n.val * 8 + (j.val / 128 * 4 + k.val), by omega⟩ ⟨j.val % 128, by omega⟩) = E (ix4 G n j k))
    (ha : ∀ n j, x1 (ix3 ⟨g, hg⟩ n j) = A (ix3 G n j))
    (hw : ∀ k l, x3 (ix2 k l) = We (ix2 k 0)) (hb : x4 (ix2 0 0) = Be (ix1 0)) (n j : Fin 256) :
    gated x0 x1 x3 x4 g hg (ix2 n j) = Cert.ReferenceIdeal.Layers.gated E A We Be (ix3 G n j) := by
  pointwise [gated, gatedHalf, logits, edgesAt_apply, weightAt_apply, adjacencyAt_apply, whole2_eq, Cert.ReferenceIdeal.Layers.gated, Cert.ReferenceIdeal.Layers.logits]
  have e : ∀ (k : Fin 4) (a b : ℕ) (ha : a < 2048) (hb : b < 128), a = n.val * 8 + (j.val / 128 * 4 + k.val) → b = j.val % 128 →
      x0 (ix3 ⟨g, hg⟩ ⟨a, ha⟩ ⟨b, hb⟩) = E (ix4 G n j k) := by
    intro k a b ha hb e1 e2
    subst e1 e2
    exact he n j k
  rw [Fin.sum_univ_four, ← Ideal.logistic.eq_1]
  by_cases h : j.val < 128
  · rw [dif_pos h, e 0 _ _ _ _ (by simp; omega) (by omega), e 1 _ _ _ _ (by simp; omega) (by omega), e 2 _ _ _ _ (by simp; omega) (by omega),
      e 3 _ _ _ _ (by simp; omega) (by omega)]
    simp only [ha, hw, hb]
  · have hj : 128 + (j.val - 128) = j.val := by omega
    rw [dif_neg h, e 0 _ _ _ _ (by simp; omega) (by omega), e 1 _ _ _ _ (by simp; omega) (by omega), e 2 _ _ _ _ (by simp; omega) (by omega),
      e 3 _ _ _ _ (by simp; omega) (by omega)]
    simp only [ha, hw, hb, hj]

/-- Equal blocks give the same readout of a graph. -/
theorem graphRow_eq (x0 : FVec Ideal S16x2048x128 .f32) (x1 : FVec Ideal S16x256x256 .f32) (x2 : FVec Ideal S16x256x128 .f32)
    (x3 : FVec Ideal S4x128 .f32) (x4 : FVec Ideal S1x1 .f32) (x5 : FVec Ideal S256x128 .f32) (x6 : FVec Ideal S1x128 .f32)
    (x7 : FVec Ideal S256x64 .f32) (x8 : FVec Ideal S1x64 .f32) (g : ℕ) (hg : g < 16)
    (E : FVec Ideal Cert.ReferenceIdeal.S128x256x256x4 .f32) (A : FVec Ideal Cert.ReferenceIdeal.S128x256x256 .f32)
    (N : FVec Ideal Cert.ReferenceIdeal.S128x256x128 .f32)
    (We : FVec Ideal Cert.ReferenceIdeal.S4x1 .f32) (Be : FVec Ideal Cert.ReferenceIdeal.S1 .f32)
    (B1 : FVec Ideal Cert.ReferenceIdeal.S128 .f32) (B2 : FVec Ideal Cert.ReferenceIdeal.S64 .f32)
    (he : ∀ (n j : Fin 256) (k : Fin 4),
      x0 (ix3 ⟨g, hg⟩ ⟨n.val * 8 + (j.val / 128 * 4 + k.val), by omega⟩ ⟨j.val % 128, by omega⟩) = E (ix4 G n j k))
    (ha : ∀ n j, x1 (ix3 ⟨g, hg⟩ n j) = A (ix3 G n j)) (hn : ∀ n d, x2 (ix3 ⟨g, hg⟩ n d) = N (ix3 G n d))
    (hw : ∀ k l, x3 (ix2 k l) = We (ix2 k 0)) (hb : x4 (ix2 0 0) = Be (ix1 0))
    (h6 : ∀ d, x6 (ix2 0 d) = B1 (ix1 d)) (h8 : ∀ d, x8 (ix2 0 d) = B2 (ix1 d)) (d : Fin 64) :
    graphRow x0 x1 x2 x3 x4 x5 x6 x7 x8 g hg (ix2 0 d) = Cert.ReferenceIdeal.Layers.readouts N E A We Be x5 B1 x7 B2 (ix2 G d) :=
  readout_eq G _ _ (layer2_eq G _ _ _ _ _ _ _
    (gated_eq G _ _ _ _ g hg _ _ _ _ he ha hw hb)
    (layer1_eq G _ _ _ _ _ _ _ (gated_eq G _ _ _ _ g hg _ _ _ _ he ha hw hb)
      (fun n l => (nodesAt_apply x2 g hg n l).trans (hn n l)) h6) h8) d

/-- Equal operands give the same critic head. -/
theorem critic_eq (y : FVec Ideal S128x64 .f32) (x9 : FVec Ideal S128x32 .f32) (x10 : FVec Ideal S64x64 .f32) (x11 : FVec Ideal S1x64 .f32)
    (x12 : FVec Ideal S96x128 .f32) (x13 : FVec Ideal S1x128 .f32) (x14 : FVec Ideal S128x64 .f32) (x15 : FVec Ideal S1x64 .f32)
    (x16 : FVec Ideal S64x1 .f32) (x17 : FVec Ideal S1x1 .f32)
    (bo : FVec Ideal Cert.ReferenceIdeal.S64 .f32) (bc1 : FVec Ideal Cert.ReferenceIdeal.S128 .f32)
    (bc2 : FVec Ideal Cert.ReferenceIdeal.S64 .f32) (bv : FVec Ideal Cert.ReferenceIdeal.S1 .f32)
    (h11 : ∀ d, x11 (ix2 0 d) = bo (ix1 d)) (h13 : ∀ d, x13 (ix2 0 d) = bc1 (ix1 d)) (h15 : ∀ d, x15 (ix2 0 d) = bc2 (ix1 d))
    (h17 : x17 (ix2 0 0) = bv (ix1 0)) (r : Fin 128) (z : Fin 1) :
    critic y x9 x10 x11 x12 x13 x14 x15 x16 x17 (ix2 r z) = Cert.ReferenceIdeal.Layers.critic y x9 x10 bo x12 bc1 x14 bc2 x16 bv (ix2 r z) := by
  pointwise [critic, k0_pay2, whole2_eq, Cert.ReferenceIdeal.Layers.critic, Cert.ReferenceIdeal.Layers.value, Cert.ReferenceIdeal.Layers.critic2,
    Cert.ReferenceIdeal.Layers.critic1, Cert.ReferenceIdeal.Layers.embeddings]
  simp only [h11, h13, h15, h17]

end Cert.KernelIdeal.Pure

end
-- ==== Proof.Encode.lean ====
/- One run of the kernel body at any grid point, up to its last conditional: the sixteen graphs of the point's blocks leave
   their sixteen readouts in their rows of the scratch, the other rows as they were. -/
module

public import proofs.«01_k».proof.Proof.Encoder
public import proofs.«01_k».proof.Proof.Gen.KernelIdeal.Frame
public import Idealize.ShloMosaic.Lib.Claim
public import Idealize.ShloMosaic.Lib.WritesUnit
public import Idealize.ShloMosaic.Lib.Pipeline.Value
public import Idealize.ShloMosaic.Lib.ValueIdx

@[expose] public section

set_option maxRecDepth 16384

noncomputable section

namespace Cert.KernelIdeal.Encoder

open Cert.KernelIdeal Cert.KernelIdeal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A whole buffer at given contents -/

/-- A whole buffer whose cells hold `x` is owned at `x`. -/
theorem owns_unread (c : Dev nD) {sp : Space} {sh : Shape} {e : EltTy} {M : Memref sig .tc sp sh e} (h : M.IsWhole) (x : sh.Idx → Elt F e) :
    (M.view.loc (c : Thread nD τ) ↦[M.view.set]{fullShare} h.unread x : sProp 𝕄)
      ⊢ iprop(∃ f, ⌜M.view.read (Elt F) f = x⌝ ∗ (M.view.loc (c : Thread nD τ) ↦[M.view.set]{fullShare} f)) := by
  iintro H
  iexists _; isplitr
  · ipureintro; exact h.read_unread x
  iexact H

/-! ## The rows of a point -/

/-- The array `ys` with rows `16 b, …, 16 b + n - 1` replaced by the first `n` of the rows `w`. -/
def fillRows (b n : ℕ) (w : ∀ g, g < 16 → FVec F S1x64 .f32) (ys : Vec F S128x64 .f32) : Vec F S128x64 .f32 :=
  fun y => if h : 16 * b ≤ (y 0).val ∧ (y 0).val < 16 * b + n ∧ (y 0).val < 16 * b + 16 then
    w ((y 0).val - 16 * b) (by omega) (ix2 0 (y 1)) else ys y

/-- Replacing no row changes nothing. -/
theorem fillRows_zero (b : ℕ) (w : ∀ g, g < 16 → FVec F S1x64 .f32) (ys : Vec F S128x64 .f32) : fillRows b 0 w ys = ys := by
  funext y
  exact dif_neg (by omega)

/-- The row the kernel stores graph `g`'s readout in: `16 b + g` at grid point `b`. -/
theorem row_eq (i : grid0.Coords) {g : ℕ} (hg : g < 16) : k0_off1 i (BitVec.ofNat 32 g) = ![16 * (i 0).val + g, 0] :=
  k0_off1_eq i ⟨g, hg⟩

/-- One more stored row: after the store of row `n`, one more row is replaced. -/
theorem fillRows_step (i : grid0.Coords) (M : Memref sig .tc .vmem S128x64 .f32) (f : M.view.ty.Contents (Elt F))
    (L : List (View.Piece (Elt F) S128x64 .f32)) (w : ∀ g, g < 16 → FVec F S1x64 .f32) (ys : Vec F S128x64 .f32) {n : ℕ} (hn : n < 16)
    (inb : ∀ a, k0_off1 i (BitVec.ofNat 32 n) a + S1x64.size a ≤ S128x64.size a) (p : FVec F S1x64 .f32) (hp : p = w n hn)
    (h : M.view.read (Elt F) (M.view.writes (Elt F) f L) = fillRows (i 0).val n w ys) :
    M.view.read (Elt F) (M.view.writes (Elt F) f (⟨Rect.unit (s := S128x64) (k0_off1 i (BitVec.ofNat 32 n)) S1x64.size inb, p⟩ :: L))
      = fillRows (i 0).val (n + 1) w ys := by
  subst hp
  funext y
  by_cases hy : (y 0).val = 16 * (i 0).val + n
  · refine (View.read_writes_cons_rows_of_mem M.view f inb (w n hn) L y (ix2 0 (y 1)) (row_eq i hn) ?_ rfl).trans ?_
    · simpa using hy
    · unfold fillRows
      rw [dif_pos (by omega)]
      congr 1
      congr 1
      omega
  · refine (View.read_writes_cons_rows_of_not_mem (W := 1) M.view f inb (w n hn) L y (row_eq i hn) rfl (by omega)).trans ?_
    rw [h]
    unfold fillRows
    by_cases hlt : 16 * (i 0).val ≤ (y 0).val ∧ (y 0).val < 16 * (i 0).val + n ∧ (y 0).val < 16 * (i 0).val + 16
    · rw [dif_pos hlt, dif_pos (by omega)]
    · rw [dif_neg hlt, dif_neg (by omega)]

/-- The scratch after a grid point: its sixteen rows are the point's sixteen readouts, the others as before. -/
def filled (i : grid0.Coords) (x0 : Vec F S16x2048x128 .f32) (x1 : Vec F S16x256x256 .f32) (x2 : Vec F S16x256x128 .f32) (x3 : Vec F S4x128 .f32) (x4 : Vec F S1x1 .f32) (x5 : Vec F S256x128 .f32) (x6 : Vec F S1x128 .f32) (x7 : Vec F S256x64 .f32) (x8 : Vec F S1x64 .f32) (ys : Vec F S128x64 .f32) : Vec F S128x64 .f32 :=
  fillRows (i 0).val 16 (graphRow x0 x1 x2 x3 x4 x5 x6 x7 x8) ys

/-- The kernel body's last step: the critic head, at the last grid point. -/
def tail (i : grid0.Coords) (arg1 : Memref sig .tc .vmem S16x2048x128 .f32) (harg1 : arg1.IsWhole) (arg2 : Memref sig .tc .vmem S16x256x256 .f32) (harg2 : arg2.IsWhole) (arg3 : Memref sig .tc .vmem S16x256x128 .f32) (harg3 : arg3.IsWhole) (arg4 : Memref sig .tc .vmem S4x128 .f32) (harg4 : arg4.IsWhole) (arg5 : Memref sig .tc .vmem S1x1 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S128x32 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S96x128 .f32) (harg13 : arg13.IsWhole) (arg14 : Memref sig .tc .vmem S1x128 .f32) (harg14 : arg14.IsWhole) (arg15 : Memref sig .tc .vmem S128x64 .f32) (harg15 : arg15.IsWhole) (arg16 : Memref sig .tc .vmem S1x64 .f32) (harg16 : arg16.IsWhole) (arg17 : Memref sig .tc .vmem S64x1 .f32) (harg17 : arg17.IsWhole) (arg18 : Memref sig .tc .vmem S1x1 .f32) (harg18 : arg18.IsWhole) (arg19 : Memref sig .tc .vmem S128x1 .f32) (harg19 : arg19.IsWhole) (arg20 : Memref sig .tc .vmem S128x64 .f32) (harg20 : arg20.IsWhole) :
    Prog (TpuEff nD τ sig (Elt F) Λ₀ .tc) PUnit :=
  if h : k0_cond1 i = 1#1 then do
    let v ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20
    Prog.lift (.store arg19 (Rect.unit (s := S128x1) ![0, 0] S128x1.size inb_S128x1_S128x1_0_0) v Finset.univ (View.stores_vmem_bits_univ h_S128x1 rfl) (.inl rfl))
    pure ⟨⟩
  else pure ⟨⟩

set_option maxHeartbeats 4000000 in
/-- The body, run from the point's blocks and any scratch contents, reaches its last step with the blocks unchanged and the
    point's sixteen rows of the scratch filled. -/
theorem encode_run (c : Dev nD) (i : grid0.Coords) (arg1 : Memref sig .tc .vmem S16x2048x128 .f32) (harg1 : arg1.IsWhole) (arg2 : Memref sig .tc .vmem S16x256x256 .f32) (harg2 : arg2.IsWhole) (arg3 : Memref sig .tc .vmem S16x256x128 .f32) (harg3 : arg3.IsWhole) (arg4 : Memref sig .tc .vmem S4x128 .f32) (harg4 : arg4.IsWhole) (arg5 : Memref sig .tc .vmem S1x1 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S128x32 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S96x128 .f32) (harg13 : arg13.IsWhole) (arg14 : Memref sig .tc .vmem S1x128 .f32) (harg14 : arg14.IsWhole) (arg15 : Memref sig .tc .vmem S128x64 .f32) (harg15 : arg15.IsWhole) (arg16 : Memref sig .tc .vmem S1x64 .f32) (harg16 : arg16.IsWhole) (arg17 : Memref sig .tc .vmem S64x1 .f32) (harg17 : arg17.IsWhole) (arg18 : Memref sig .tc .vmem S1x1 .f32) (harg18 : arg18.IsWhole) (arg19 : Memref sig .tc .vmem S128x1 .f32) (harg19 : arg19.IsWhole) (arg20 : Memref sig .tc .vmem S128x64 .f32) (harg20 : arg20.IsWhole)
    (x0 : Vec F S16x2048x128 .f32) (x1 : Vec F S16x256x256 .f32) (x2 : Vec F S16x256x128 .f32) (x3 : Vec F S4x128 .f32) (x4 : Vec F S1x1 .f32) (x5 : Vec F S256x128 .f32) (x6 : Vec F S1x128 .f32) (x7 : Vec F S256x64 .f32) (x8 : Vec F S1x64 .f32) (ys : Vec F S128x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg20 fullShare ys
        ∗ ((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg20 fullShare (filled i x0 x1 x2 x3 x4 x5 x6 x7 x8 ys))
            -∗ wp frame (wpE (defs₀ (F := F)) Variants.none c none) E (tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__body_eq_skeleton]; unfold cc0__body_skel
  simp only [k0_part44_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  iapply Hk
  isplitl [H0]; · iapply (owns_unread c harg1 _); iexact H0
  isplitl [H1]; · iapply (owns_unread c harg2 _); iexact H1
  isplitl [H2]; · iapply (owns_unread c harg3 _); iexact H2
  isplitl [H3]; · iapply (owns_unread c harg4 _); iexact H3
  isplitl [H4]; · iapply (owns_unread c harg5 _); iexact H4
  isplitl [H5]; · iapply (owns_unread c harg6 _); iexact H5
  isplitl [H6]; · iapply (owns_unread c harg7 _); iexact H6
  isplitl [H7]; · iapply (owns_unread c harg8 _); iexact H7
  isplitl [H8]; · iapply (owns_unread c harg9 _); iexact H8
  iexists _; isplitr
  swap
  · iexact HS0
  · ipureintro
    refine Eq.trans (b := fillRows (i 0).val 16 (graphRow (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg8.view.read (Elt F) (harg8.unread x7)) (arg9.view.read (Elt F) (harg9.unread x8))) ys) ?_ ?_
    · iterate 16 refine fillRows_step i arg20 _ _ _ _ (by omega) _ _ (by unfold graphRow; with_unfolding_all rfl) ?_
      exact hfs.trans (fillRows_zero _ _ _).symm
    · unfold filled
      simp only [harg1.read_unread x0, harg2.read_unread x1, harg3.read_unread x2, harg4.read_unread x3, harg5.read_unread x4, harg6.read_unread x5, harg7.read_unread x6, harg8.read_unread x7, harg9.read_unread x8]

end Cert.KernelIdeal.Encoder

end
-- ==== Proof.Tail.lean ====
/- The last step of the kernel body: nothing at the earlier grid points, the critic head at the last one. -/
module

public import proofs.«01_k».proof.Proof.Encode
public import Idealize.ShloMosaic.Lib.VecWindow

@[expose] public section

set_option maxRecDepth 16384

noncomputable section

namespace Cert.KernelIdeal.Encoder

open Cert.KernelIdeal Cert.KernelIdeal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Before the last grid point the last step does nothing. -/
theorem tail_skip (c : Dev nD) (i : grid0.Coords) (arg1 : Memref sig .tc .vmem S16x2048x128 .f32) (harg1 : arg1.IsWhole) (arg2 : Memref sig .tc .vmem S16x256x256 .f32) (harg2 : arg2.IsWhole) (arg3 : Memref sig .tc .vmem S16x256x128 .f32) (harg3 : arg3.IsWhole) (arg4 : Memref sig .tc .vmem S4x128 .f32) (harg4 : arg4.IsWhole) (arg5 : Memref sig .tc .vmem S1x1 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S128x32 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S96x128 .f32) (harg13 : arg13.IsWhole) (arg14 : Memref sig .tc .vmem S1x128 .f32) (harg14 : arg14.IsWhole) (arg15 : Memref sig .tc .vmem S128x64 .f32) (harg15 : arg15.IsWhole) (arg16 : Memref sig .tc .vmem S1x64 .f32) (harg16 : arg16.IsWhole) (arg17 : Memref sig .tc .vmem S64x1 .f32) (harg17 : arg17.IsWhole) (arg18 : Memref sig .tc .vmem S1x1 .f32) (harg18 : arg18.IsWhole) (arg19 : Memref sig .tc .vmem S128x1 .f32) (harg19 : arg19.IsWhole) (arg20 : Memref sig .tc .vmem S128x64 .f32) (harg20 : arg20.IsWhole) (h : ¬ k0_cond1 i = 1#1) (E : Set ℕ) (K : PUnit → sProp 𝕄) :
    K ⟨⟩ ⊢ wp frame (wpE (defs₀ (F := F)) Variants.none c none) E (tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold tail
  rw [dif_neg h]
  iintro H
  sl_step
  iexact H

set_option maxHeartbeats 4000000 in
/-- At the last grid point the last step stores the critic head of the scratch's contents in the output block. -/
theorem tail_last (c : Dev nD) (i : grid0.Coords) (arg1 : Memref sig .tc .vmem S16x2048x128 .f32) (harg1 : arg1.IsWhole) (arg2 : Memref sig .tc .vmem S16x256x256 .f32) (harg2 : arg2.IsWhole) (arg3 : Memref sig .tc .vmem S16x256x128 .f32) (harg3 : arg3.IsWhole) (arg4 : Memref sig .tc .vmem S4x128 .f32) (harg4 : arg4.IsWhole) (arg5 : Memref sig .tc .vmem S1x1 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S256x64 .f32) (harg8 : arg8.IsWhole) (arg9 : Memref sig .tc .vmem S1x64 .f32) (harg9 : arg9.IsWhole) (arg10 : Memref sig .tc .vmem S128x32 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S96x128 .f32) (harg13 : arg13.IsWhole) (arg14 : Memref sig .tc .vmem S1x128 .f32) (harg14 : arg14.IsWhole) (arg15 : Memref sig .tc .vmem S128x64 .f32) (harg15 : arg15.IsWhole) (arg16 : Memref sig .tc .vmem S1x64 .f32) (harg16 : arg16.IsWhole) (arg17 : Memref sig .tc .vmem S64x1 .f32) (harg17 : arg17.IsWhole) (arg18 : Memref sig .tc .vmem S1x1 .f32) (harg18 : arg18.IsWhole) (arg19 : Memref sig .tc .vmem S128x1 .f32) (harg19 : arg19.IsWhole) (arg20 : Memref sig .tc .vmem S128x64 .f32) (harg20 : arg20.IsWhole) (h : k0_cond1 i = 1#1)
    (x9 : Vec F S128x32 .f32) (x10 : Vec F S64x64 .f32) (x11 : Vec F S1x64 .f32) (x12 : Vec F S96x128 .f32) (x13 : Vec F S1x128 .f32) (x14 : Vec F S128x64 .f32) (x15 : Vec F S1x64 .f32) (x16 : Vec F S64x1 .f32) (x17 : Vec F S1x1 .f32) (ys : Vec F S128x64 .f32) (E : Set ℕ) (K : PUnit → sProp 𝕄) :
    iprop(owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ owns (c : Thread nD τ) arg20 fullShare ys
        ∗ ((owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare (critic ys x9 x10 x11 x12 x13 x14 x15 x16 x17) ∗ owns (c : Thread nD τ) arg20 fullShare ys) -∗ K ⟨⟩))
      ⊢ wp frame (wpE (defs₀ (F := F)) Variants.none c none) E (tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  unfold tail
  rw [dif_pos h]
  simp only [k0_part1_eq_skeleton]
  unfold owns
  iintro ⟨⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, %hf18, H18⟩, ⟨%fs0, %hfs, HS0⟩, Hk⟩
  obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg20.eq_unread hfs
  sl_exec
  sl_step
  iapply Hk
  isplitl [H9]; · iapply (owns_unread c harg10 _); iexact H9
  isplitl [H10]; · iapply (owns_unread c harg11 _); iexact H10
  isplitl [H11]; · iapply (owns_unread c harg12 _); iexact H11
  isplitl [H12]; · iapply (owns_unread c harg13 _); iexact H12
  isplitl [H13]; · iapply (owns_unread c harg14 _); iexact H13
  isplitl [H14]; · iapply (owns_unread c harg15 _); iexact H14
  isplitl [H15]; · iapply (owns_unread c harg16 _); iexact H15
  isplitl [H16]; · iapply (owns_unread c harg17 _); iexact H16
  isplitl [H17]; · iapply (owns_unread c harg18 _); iexact H17
  isplitl [H18]
  · iexists _; isplitr
    swap
    · iexact H18
    · ipureintro
      refine (View.read_writes_full arg19.view f18 _ _ _).trans ?_
      refine Eq.trans (b := critic (whole2 (arg20.view.read (Elt F) (harg20.unread ys)) inb_S128x64_S128x64_0_0) (arg10.view.read (Elt F) (harg10.unread x9)) (arg11.view.read (Elt F) (harg11.unread x10)) (arg12.view.read (Elt F) (harg12.unread x11)) (arg13.view.read (Elt F) (harg13.unread x12)) (arg14.view.read (Elt F) (harg14.unread x13)) (arg15.view.read (Elt F) (harg15.unread x14)) (arg16.view.read (Elt F) (harg16.unread x15)) (arg17.view.read (Elt F) (harg17.unread x16)) (arg18.view.read (Elt F) (harg18.unread x17))) ?_ ?_
      · unfold critic; with_unfolding_all rfl
      · simp only [whole2_eq, harg10.read_unread x9, harg11.read_unread x10, harg12.read_unread x11, harg13.read_unread x12, harg14.read_unread x13, harg15.read_unread x14, harg16.read_unread x15, harg17.read_unread x16, harg18.read_unread x17, harg20.read_unread ys]
  iapply (owns_unread c harg20 _); iexact HS0

end Cert.KernelIdeal.Encoder

end
-- ==== Proof.Body.lean ====
/- The pipeline's proof data and its body obligation: before grid point `t` the scratch holds, in its first `16 t` rows, the
   readouts of the graphs of the points below `t`; the last point leaves the critic head of all readouts in the output block. -/
module

public import proofs.«01_k».proof.Proof.Tail
public import proofs.«01_k».proof.Proof.Gen.KernelIdeal.Points
public import Idealize.ShloMosaic.Lib.Pipeline.FrameBody

@[expose] public section

set_option maxRecDepth 16384

noncomputable section

namespace Cert.KernelIdeal.Encoder

open Cert.KernelIdeal Cert.KernelIdeal.Gen
open Idealize.ShloMosaic.ValueIdx (ix2)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points and the buffers -/

/-- The grid coordinate of a point is the point. -/
theorem coords_eq (t : Fin cfg0.N) : (cfg0.grid.coords t 0).val = t.val := by
  have ht : t.val < 8 := Nat.lt_of_lt_of_eq t.isLt N_0
  have e0 : (grid0.coords t 0).val = t.val / 1 % 8 := Pipeline.Grid.coords_val t 0 (by decide) rfl
  refine e0.trans ?_
  omega

/-- The body's condition holds at the last point only. -/
theorem cond_iff (t : Fin cfg0.N) : k0_cond1 (cfg0.grid.coords t) = 1#1 ↔ t.val = 7 := by
  have ht : t.val < 8 := Nat.lt_of_lt_of_eq t.isLt N_0
  have e0 : (grid0.coords t 0).val = t.val / 1 % 8 := Pipeline.Grid.coords_val t 0 (by decide) rfl
  have key : k0_cond1 (grid0.coords t) = 1#1 ↔ t.val % 8 = 7 := by
    simp only [k0_cond1, e0]
    word_cmp
  refine key.trans ?_
  omega

/-! The windows' current staging buffers at point `t`. -/
abbrev ms0 (t : Fin cfg0.N) : Memref sig .tc .vmem S16x2048x128 .f32 := win0_0.stage (cfg0.slots t 0)
abbrev ms1 (t : Fin cfg0.N) : Memref sig .tc .vmem S16x256x256 .f32 := win0_1.stage (cfg0.slots t 1)
abbrev ms2 (t : Fin cfg0.N) : Memref sig .tc .vmem S16x256x128 .f32 := win0_2.stage (cfg0.slots t 2)
abbrev ms3 (t : Fin cfg0.N) : Memref sig .tc .vmem S4x128 .f32 := win0_3.stage (cfg0.slots t 3)
abbrev ms4 (t : Fin cfg0.N) : Memref sig .tc .vmem S1x1 .f32 := win0_4.stage (cfg0.slots t 4)
abbrev ms5 (t : Fin cfg0.N) : Memref sig .tc .vmem S256x128 .f32 := win0_5.stage (cfg0.slots t 5)
abbrev ms6 (t : Fin cfg0.N) : Memref sig .tc .vmem S1x128 .f32 := win0_6.stage (cfg0.slots t 6)
abbrev ms7 (t : Fin cfg0.N) : Memref sig .tc .vmem S256x64 .f32 := win0_7.stage (cfg0.slots t 7)
abbrev ms8 (t : Fin cfg0.N) : Memref sig .tc .vmem S1x64 .f32 := win0_8.stage (cfg0.slots t 8)
abbrev ms9 (t : Fin cfg0.N) : Memref sig .tc .vmem S128x32 .f32 := win0_9.stage (cfg0.slots t 9)
abbrev ms10 (t : Fin cfg0.N) : Memref sig .tc .vmem S64x64 .f32 := win0_10.stage (cfg0.slots t 10)
abbrev ms11 (t : Fin cfg0.N) : Memref sig .tc .vmem S1x64 .f32 := win0_11.stage (cfg0.slots t 11)
abbrev ms12 (t : Fin cfg0.N) : Memref sig .tc .vmem S96x128 .f32 := win0_12.stage (cfg0.slots t 12)
abbrev ms13 (t : Fin cfg0.N) : Memref sig .tc .vmem S1x128 .f32 := win0_13.stage (cfg0.slots t 13)
abbrev ms14 (t : Fin cfg0.N) : Memref sig .tc .vmem S128x64 .f32 := win0_14.stage (cfg0.slots t 14)
abbrev ms15 (t : Fin cfg0.N) : Memref sig .tc .vmem S1x64 .f32 := win0_15.stage (cfg0.slots t 15)
abbrev ms16 (t : Fin cfg0.N) : Memref sig .tc .vmem S64x1 .f32 := win0_16.stage (cfg0.slots t 16)
abbrev ms17 (t : Fin cfg0.N) : Memref sig .tc .vmem S1x1 .f32 := win0_17.stage (cfg0.slots t 17)
abbrev ms18 (t : Fin cfg0.N) : Memref sig .tc .vmem S128x1 .f32 := win0_18.stage (cfg0.slots t 18)

/-- The scratch, a whole buffer. -/
abbrev scratch : Memref sig .tc .vmem S128x64 .f32 := Memref.whole cc0_scratch0

/-- The class's invariant with the scratch owned at some contents. -/
theorem phiA_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The values -/

/-- The grid point that handles row `r` of the readouts. -/
def ptOf (r : Fin 128) : Fin cfg0.N := ⟨r.val / 16, lt_of_lt_of_eq (by omega) N_0.symm⟩

/-- The last grid point. -/
def lastPt : Fin cfg0.N := ⟨7, lt_of_lt_of_eq (by omega) N_0.symm⟩

/-- The readouts of the sixteen graphs of point `t`. -/
def rowsAt (c : Dev nD) (t : Fin cfg0.N) : ∀ g, g < 16 → FVec F S1x64 .f32 :=
  graphRow (iblk m c 0 t) (iblk m c 1 t) (iblk m c 2 t) (iblk m c 3 t) (iblk m c 4 t) (iblk m c 5 t) (iblk m c 6 t) (iblk m c 7 t) (iblk m c 8 t)

/-- All readouts: row `r` is graph `r % 16` of point `r / 16`. -/
def readouts (c : Dev nD) : Vec F S128x64 .f32 := fun y =>
  rowsAt m c (ptOf (y 0)) ((y 0).val % 16) (Nat.mod_lt _ (by decide)) (ix2 0 (y 1))

/-- The kernel's result: the critic head of all readouts. -/
def result (c : Dev nD) : Vec F S128x1 .f32 :=
  critic (readouts m c) (iblk m c 9 lastPt) (iblk m c 10 lastPt) (iblk m c 11 lastPt) (iblk m c 12 lastPt) (iblk m c 13 lastPt) (iblk m c 14 lastPt) (iblk m c 15 lastPt) (iblk m c 16 lastPt) (iblk m c 17 lastPt)

/-- A point fills the rows of its own graphs: agreement with the readouts below the point becomes agreement below the next. -/
theorem filled_agrees (c : Dev nD) (t : Fin cfg0.N) (d : Vec F S128x64 .f32)
    (hd : ∀ y, (y 0).val < 16 * t.val → d y = readouts m c y) (y) (hy : (y 0).val < 16 * (t.val + 1)) :
    filled (cfg0.grid.coords t) (iblk m c 0 t) (iblk m c 1 t) (iblk m c 2 t) (iblk m c 3 t) (iblk m c 4 t) (iblk m c 5 t) (iblk m c 6 t) (iblk m c 7 t) (iblk m c 8 t) d y = readouts m c y := by
  unfold filled fillRows
  by_cases h : (y 0).val < 16 * t.val
  · rw [dif_neg (by rw [coords_eq]; omega)]
    exact hd y h
  · rw [dif_pos (by rw [coords_eq]; omega)]
    have ht : ptOf (y 0) = t := Fin.ext (by show (y 0).val / 16 = t.val; omega)
    have hg : (y 0).val - 16 * (cfg0.grid.coords t 0).val = (y 0).val % 16 := by rw [coords_eq]; omega
    unfold readouts
    rw [ht]
    unfold rowsAt
    congr 1

/-! ## The proof data -/

/-- The invariant before point `t`: the scratch agrees with the readouts in its first `16 t` rows. -/
def inv (c : Dev nD) (t : ℕ) : sProp 𝕄 :=
  iprop((∃ d, ⌜∀ y, (y 0).val < 16 * t → d y = readouts m c y⌝ ∗ owns (c : Thread nD τ) scratch fullShare d) ∗ (∃ r, prngReg c r))

/-- The pipeline's proof data: each input left at its block, the output at the kernel's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => result m c
    | ⟨_ + 19, h⟩ => absurd h (Nat.not_lt.2 (Nat.le_add_left _ _))
  Φ t := inv m c t.val
  q _ := fullShare
  owed _ := 0

/-- The proof data's arrays are the contents the region finds. -/
theorem A_eq (c : Dev nD) (w : Fin cfg0.W) : (dats m 0 c).A w = V m c (Pipeline.arrRef spec0 w) := by
  dsimp only [dats]

/-- What the body leaves in the output's buffer. -/
theorem after_out (c : Dev nD) (t : Fin cfg0.N) : (dats m 0 c).after 18 t = result m c := by dsimp only [dats]

/-- A window that is never idle is left at the proof data's contents. -/
theorem leaves_in (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The output's buffer at the last point is left at the result. -/
theorem leaves18_last (c : Dev nD) (t : Fin cfg0.N) (h : t.val = 7) :
    (dats m 0 c).leavesExact 18 t = owns (c : Thread nD τ) (ms18 t) fullShare (result m c) := by
  unfold Dat.leavesExact
  rw [show cfg0.idle 18 (cfg0.grid.coords t) = false from by
    show (!(k0_cond1 (cfg0.grid.coords t) == 1#1)) = false
    rw [(cond_iff t).mpr h]; rfl, after_out]

/-- Before the last point the output's buffer is left as found. -/
theorem leaves18_before (c : Dev nD) (t : Fin cfg0.N) (h : ¬ t.val = 7) :
    (dats m 0 c).leavesExact 18 t = iprop(∃ d, owns (c : Thread nD τ) (ms18 t) fullShare ((dats m 0 c).before 18 t d)) :=
  (dats m 0 c).leavesExact_idle 18 t
    (by
      show (!(k0_cond1 (cfg0.grid.coords t) == 1#1)) = true
      rw [beq_eq_false_iff_ne.mpr (fun e => h ((cond_iff t).mp e))]; rfl)
    (by
      have ht : t.val < 8 := Nat.lt_of_lt_of_eq t.isLt N_0
      exact Bool.eq_false_iff.mpr fun e => h (by have := (flush0_18 t).mp e; omega))

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 4000000 in
/-- The body at any point: it fills the point's rows of the scratch and, at the last point, stores the result. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl),
    before0_1_of m (dats m 0 c) (A_eq m c 1) (fun _ => rfl),
    before0_2_of m (dats m 0 c) (A_eq m c 2) (fun _ => rfl),
    before0_3_of m (dats m 0 c) (A_eq m c 3) (fun _ => rfl),
    before0_4_of m (dats m 0 c) (A_eq m c 4) (fun _ => rfl),
    before0_5_of m (dats m 0 c) (A_eq m c 5) (fun _ => rfl),
    before0_6_of m (dats m 0 c) (A_eq m c 6) (fun _ => rfl),
    before0_7_of m (dats m 0 c) (A_eq m c 7) (fun _ => rfl),
    before0_8_of m (dats m 0 c) (A_eq m c 8) (fun _ => rfl),
    before0_9_of m (dats m 0 c) (A_eq m c 9) (fun _ => rfl),
    before0_10_of m (dats m 0 c) (A_eq m c 10) (fun _ => rfl),
    before0_11_of m (dats m 0 c) (A_eq m c 11) (fun _ => rfl),
    before0_12_of m (dats m 0 c) (A_eq m c 12) (fun _ => rfl),
    before0_13_of m (dats m 0 c) (A_eq m c 13) (fun _ => rfl),
    before0_14_of m (dats m 0 c) (A_eq m c 14) (fun _ => rfl),
    before0_15_of m (dats m 0 c) (A_eq m c 15) (fun _ => rfl),
    before0_16_of m (dats m 0 c) (A_eq m c 16) (fun _ => rfl),
    before0_17_of m (dats m 0 c) (A_eq m c 17) (fun _ => rfl)]
  rw [show (dats m 0 c).Φ t.succ = inv m c (t.val + 1) from rfl,
    show (dats m 0 c).owesAt () t.succ = (dats m 0 c).owesAt () t.castSucc from rfl,
    show (dats m 0 c).Φ t.castSucc = inv m c t.val from rfl]
  rw [leaves_in m c 0 t rfl, leaves_in m c 1 t rfl, leaves_in m c 2 t rfl, leaves_in m c 3 t rfl, leaves_in m c 4 t rfl, leaves_in m c 5 t rfl, leaves_in m c 6 t rfl, leaves_in m c 7 t rfl, leaves_in m c 8 t rfl, leaves_in m c 9 t rfl, leaves_in m c 10 t rfl, leaves_in m c 11 t rfl, leaves_in m c 12 t rfl, leaves_in m c 13 t rfl, leaves_in m c 14 t rfl, leaves_in m c 15 t rfl, leaves_in m c 16 t rfl, leaves_in m c 17 t rfl]
  unfold inv
  iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (encode_run c (cfg0.grid.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) d Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  by_cases h : t.val = 7
  · rw [leaves18_last m c t h]
    iapply (tail_last c (cfg0.grid.coords t) _ _ _ _ _ _ _ _ _ _ _ _ _ _ _ _ _ _ _ _ _ _ _ _ _ _ _ _ _ _ _ _ _ _ _ _ _ _ _ _ ((cond_iff t).mpr h) (iblk m c 9 t) (iblk m c 10 t) (iblk m c 11 t) (iblk m c 12 t) (iblk m c 13 t) (iblk m c 14 t) (iblk m c 15 t) (iblk m c 16 t) (iblk m c 17 t) (filled (cfg0.grid.coords t) (iblk m c 0 t) (iblk m c 1 t) (iblk m c 2 t) (iblk m c 3 t) (iblk m c 4 t) (iblk m c 5 t) (iblk m c 6 t) (iblk m c 7 t) (iblk m c 8 t) d) Set.univ _)
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [HS]; · iexact HS
    iintro ⟨H9, H10, H11, H12, H13, H14, H15, H16, H17, H18, HS⟩
    isplitl [HS Hg]
    · isplitl [HS]
      · iexists _; isplitr
        swap
        · iexact HS
        · ipureintro; exact filled_agrees m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    rw [show result m c = critic (filled (cfg0.grid.coords t) (iblk m c 0 t) (iblk m c 1 t) (iblk m c 2 t) (iblk m c 3 t) (iblk m c 4 t) (iblk m c 5 t) (iblk m c 6 t) (iblk m c 7 t) (iblk m c 8 t) d) (iblk m c 9 t) (iblk m c 10 t) (iblk m c 11 t) (iblk m c 12 t) (iblk m c 13 t) (iblk m c 14 t) (iblk m c 15 t) (iblk m c 16 t) (iblk m c 17 t) from by
      have hl : lastPt = t := Fin.ext h.symm
      have hf : filled (cfg0.grid.coords t) (iblk m c 0 t) (iblk m c 1 t) (iblk m c 2 t) (iblk m c 3 t) (iblk m c 4 t) (iblk m c 5 t) (iblk m c 6 t) (iblk m c 7 t) (iblk m c 8 t) d = readouts m c :=
        funext fun y => filled_agrees m c t d hd y (by have := (y 0).isLt; rw [h]; exact this)
      unfold result; rw [hf, hl]]
    iexact H18
  · rw [leaves18_before m c t h]
    iapply (tail_skip c (cfg0.grid.coords t) _ _ _ _ _ _ _ _ _ _ _ _ _ _ _ _ _ _ _ _ _ _ _ _ _ _ _ _ _ _ _ _ _ _ _ _ _ _ _ _ (fun e => h ((cond_iff t).mp e)) Set.univ _)
    isplitl [HS Hg]
    · isplitl [HS]
      · iexists _; isplitr
        swap
        · iexact HS
        · ipureintro; exact filled_agrees m c t d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexists _; iexact H18

/-- The body table's row at point `t`'s buffers is the body. -/
theorem defs_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

/-- Any scratch contents agree with the readouts in no rows. -/
theorem inv_in (c : Dev nD) : Pipeline.ΦA spec0 c ⊢ (inv m c 0 : sProp 𝕄) := by
  rw [phiA_eq]
  unfold inv
  iintro ⟨⟨%d, HS⟩, Hg⟩
  isplitl [HS]
  · iexists d; isplitr
    · ipureintro; exact fun y hy => absurd hy (by omega)
    iexact HS
  iexact Hg

/-- After the run the scratch's contents are forgotten. -/
theorem inv_out (c : Dev nD) (n : ℕ) : (inv m c n : sProp 𝕄) ⊢ Pipeline.ΦA spec0 c := by
  rw [phiA_eq]
  unfold inv
  iintro ⟨⟨%d, -, HS⟩, Hg⟩
  isplitl [HS]
  · iexists d; iexact HS
  iexact Hg

set_option backward.isDefEq.respectTransparency.types false in
/-- The launch: every fair run ends with each window's array after its write-backs, every other unscoped buffer as the region
    found it, and every semaphore counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

end Cert.KernelIdeal.Encoder

end
-- ==== Proof.Result.lean ====
/- The kernel's run read: what its input blocks hold of its arguments, and the result array after the run. -/
module

public import proofs.«01_k».proof.Proof.Body
public import Idealize.ShloMosaic.Lib.Pointwise
public import Idealize.ShloMosaic.Lib.Claim
public import Idealize.ShloMosaic.Lib.Pipeline.ValueKit
public import Idealize.ShloMosaic.Lib.Pipeline.Value

@[expose] public section

set_option maxRecDepth 16384

noncomputable section

namespace Cert.KernelIdeal.Encoder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks -/

/-- The windows' block indices: the first three windows follow the grid point, the others stay. -/
theorem index_eq : ∀ t : Fin cfg0.N, win0_0.index t = ![(grid0.coords t 0).val, 0, 0] ∧ win0_1.index t = ![(grid0.coords t 0).val, 0, 0] ∧ win0_2.index t = ![(grid0.coords t 0).val, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] :=
  (by decide +kernel : ∀ t : Fin grid0.N, _)

/-- A point's edge rows are sixteen graphs of the edge operand. -/
theorem block0 (c : Dev nD) (t : Fin cfg0.N) (g : Fin 16) (r : Fin 2048) (l : Fin 128) (hG : t.val * 16 + g.val < 128) :
    iblk m c 0 t (ix3 g r l) = V m c main_v2 (ix3 ⟨t.val * 16 + g.val, hG⟩ r l) := by
  have ht : (grid0.coords t 0).val = t.val := coords_eq t
  blk_ext [iblk, index_eq t]

/-- A point's adjacency matrices are sixteen graphs of the adjacency. -/
theorem block1 (c : Dev nD) (t : Fin cfg0.N) (g : Fin 16) (n j : Fin 256) (hG : t.val * 16 + g.val < 128) :
    iblk m c 1 t (ix3 g n j) = m ((c : Thread nD τ).loc main_arg2) (ix3 ⟨t.val * 16 + g.val, hG⟩ n j) := by
  have ht : (grid0.coords t 0).val = t.val := coords_eq t
  rw [← V_main_arg2 m c]
  blk_ext [iblk, index_eq t]

/-- A point's node features are sixteen graphs of the nodes. -/
theorem block2 (c : Dev nD) (t : Fin cfg0.N) (g : Fin 16) (n : Fin 256) (d : Fin 128) (hG : t.val * 16 + g.val < 128) :
    iblk m c 2 t (ix3 g n d) = m ((c : Thread nD τ).loc main_arg0) (ix3 ⟨t.val * 16 + g.val, hG⟩ n d) := by
  have ht : (grid0.coords t 0).val = t.val := coords_eq t
  rw [← V_main_arg0 m c]
  blk_ext [iblk, index_eq t]

/-! Each other window's block is its whole operand. -/
theorem block3 (c : Dev nD) (t : Fin cfg0.N) : iblk m c 3 t = V m c main_v3 := by
  blk_ext! [iblk, index_eq t]
theorem block4 (c : Dev nD) (t : Fin cfg0.N) : iblk m c 4 t = V m c main_v4 := by
  blk_ext! [iblk, index_eq t]
theorem block5 (c : Dev nD) (t : Fin cfg0.N) : iblk m c 5 t = V m c main_arg6 := by
  blk_ext! [iblk, index_eq t]
theorem block6 (c : Dev nD) (t : Fin cfg0.N) : iblk m c 6 t = V m c main_v5 := by
  blk_ext! [iblk, index_eq t]
theorem block7 (c : Dev nD) (t : Fin cfg0.N) : iblk m c 7 t = V m c main_arg8 := by
  blk_ext! [iblk, index_eq t]
theorem block8 (c : Dev nD) (t : Fin cfg0.N) : iblk m c 8 t = V m c main_v6 := by
  blk_ext! [iblk, index_eq t]
theorem block9 (c : Dev nD) (t : Fin cfg0.N) : iblk m c 9 t = V m c main_arg3 := by
  blk_ext! [iblk, index_eq t]
theorem block10 (c : Dev nD) (t : Fin cfg0.N) : iblk m c 10 t = V m c main_arg10 := by
  blk_ext! [iblk, index_eq t]
theorem block11 (c : Dev nD) (t : Fin cfg0.N) : iblk m c 11 t = V m c main_v7 := by
  blk_ext! [iblk, index_eq t]
theorem block12 (c : Dev nD) (t : Fin cfg0.N) : iblk m c 12 t = V m c main_arg12 := by
  blk_ext! [iblk, index_eq t]
theorem block13 (c : Dev nD) (t : Fin cfg0.N) : iblk m c 13 t = V m c main_v8 := by
  blk_ext! [iblk, index_eq t]
theorem block14 (c : Dev nD) (t : Fin cfg0.N) : iblk m c 14 t = V m c main_arg14 := by
  blk_ext! [iblk, index_eq t]
theorem block15 (c : Dev nD) (t : Fin cfg0.N) : iblk m c 15 t = V m c main_v9 := by
  blk_ext! [iblk, index_eq t]
theorem block16 (c : Dev nD) (t : Fin cfg0.N) : iblk m c 16 t = V m c main_arg16 := by
  blk_ext! [iblk, index_eq t]
theorem block17 (c : Dev nD) (t : Fin cfg0.N) : iblk m c 17 t = V m c main_v10 := by
  blk_ext! [iblk, index_eq t]

/-! ## The operands the host lays out -/

/-- The edge operand: entry `(b, 8 n + 4 h + k, l)` is feature `k` of edge `(n, 128 h + l)` of graph `b`. -/
theorem entry0 (c : Dev nD) (b : Fin 128) (n j : Fin 256) (k : Fin 4) (hr) (hl) :
    V m c main_v2 (ix3 b ⟨n.val * 8 + (j.val / 128 * 4 + k.val), hr⟩ ⟨j.val % 128, hl⟩) = m ((c : Thread nD τ).loc main_arg1) (ix4 b n j k) := by
  entry_read
  pointwise
  have e : (n.val * 8 + (j.val / 128 * 4 + k.val)) / 4 % 2 * 128 + j.val % 128 = j.val := by omega
  simp only [e]

/-- The edge weights, repeated over the lanes. -/
theorem entry3 (c : Dev nD) (k : Fin 4) (l : Fin 128) : V m c main_v3 (ix2 k l) = m ((c : Thread nD τ).loc main_arg4) (ix2 k 0) := by
  entry_read
  pointwise

/-! The biases, each as one row. -/
theorem entry4 (c : Dev nD) (d : Fin 1) : V m c main_v4 (ix2 0 d) = m ((c : Thread nD τ).loc main_arg5) (ix1 d) := by
  entry_read
  pointwise
  rw [Subsingleton.elim d 0]
theorem entry6 (c : Dev nD) (d : Fin 128) : V m c main_v5 (ix2 0 d) = m ((c : Thread nD τ).loc main_arg7) (ix1 d) := by
  entry_read
  pointwise
theorem entry8 (c : Dev nD) (d : Fin 64) : V m c main_v6 (ix2 0 d) = m ((c : Thread nD τ).loc main_arg9) (ix1 d) := by
  entry_read
  pointwise
theorem entry11 (c : Dev nD) (d : Fin 64) : V m c main_v7 (ix2 0 d) = m ((c : Thread nD τ).loc main_arg11) (ix1 d) := by
  entry_read
  pointwise
theorem entry13 (c : Dev nD) (d : Fin 128) : V m c main_v8 (ix2 0 d) = m ((c : Thread nD τ).loc main_arg13) (ix1 d) := by
  entry_read
  pointwise
theorem entry15 (c : Dev nD) (d : Fin 64) : V m c main_v9 (ix2 0 d) = m ((c : Thread nD τ).loc main_arg15) (ix1 d) := by
  entry_read
  pointwise
theorem entry17 (c : Dev nD) (d : Fin 1) : V m c main_v10 (ix2 0 d) = m ((c : Thread nD τ).loc main_arg17) (ix1 d) := by
  entry_read
  pointwise
  rw [Subsingleton.elim d 0]

/-! ## The result array -/

/-- The result array after the run holds the critic head of all readouts. -/
theorem final (c : Dev nD) : (dats m 0 c).arrAt 18 cfg0.N = result m c := by
  refine (dats m 0 c).arrAt_eq_of_after_last 18 lastPt (by decide +kernel) _ fun j => ?_
  blk_simp
  rw [after_out]

/-- The run ends with the arguments unchanged and no semaphore counting, at any float values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The run, read: the result array ends at the critic head of all readouts. -/
theorem run : θ_run defs (onTc (τ := τ) (main (F := F))) (s₀ m ρ) (fun r =>
    ∀ c : Dev nD, r.2.mem ((c : Thread nD τ).loc main_v11) = result m c) :=
  (θ_run defs _ _).mono (fun _ h c => ((h.1 c).1 18).trans (final m c)) (run_quiescent m ρ)

end Cert.KernelIdeal.Encoder

end
-- ==== Proof.Equal.lean ====
/- The kernel's result over the extended reals is the reference's, of the same arguments. -/
module

public import proofs.«01_k».proof.Proof.Pure
public import proofs.«01_k».proof.Proof.Result

@[expose] public section

set_option maxRecDepth 16384

noncomputable section

namespace Cert.KernelIdeal.Encoder

open Cert.KernelIdeal Cert.KernelIdeal.Gen
open Idealize.ShloMosaic Idealize.ShloMosaic.TcCoe Idealize.SL.Sem

variable (m : (ℓ : Loc nD τ sig) → Buf (Elt Ideal) ℓ)

/-! Windows on an argument itself hold that argument. -/
theorem operand5 (c : Dev nD) (t : Fin cfg0.N) : iblk m c 5 t = m ((c : Thread nD τ).loc main_arg6) :=
  (block5 m c t).trans (V_main_arg6 m c)
theorem operand7 (c : Dev nD) (t : Fin cfg0.N) : iblk m c 7 t = m ((c : Thread nD τ).loc main_arg8) :=
  (block7 m c t).trans (V_main_arg8 m c)
theorem operand9 (c : Dev nD) (t : Fin cfg0.N) : iblk m c 9 t = m ((c : Thread nD τ).loc main_arg3) :=
  (block9 m c t).trans (V_main_arg3 m c)
theorem operand10 (c : Dev nD) (t : Fin cfg0.N) : iblk m c 10 t = m ((c : Thread nD τ).loc main_arg10) :=
  (block10 m c t).trans (V_main_arg10 m c)
theorem operand12 (c : Dev nD) (t : Fin cfg0.N) : iblk m c 12 t = m ((c : Thread nD τ).loc main_arg12) :=
  (block12 m c t).trans (V_main_arg12 m c)
theorem operand14 (c : Dev nD) (t : Fin cfg0.N) : iblk m c 14 t = m ((c : Thread nD τ).loc main_arg14) :=
  (block14 m c t).trans (V_main_arg14 m c)
theorem operand16 (c : Dev nD) (t : Fin cfg0.N) : iblk m c 16 t = m ((c : Thread nD τ).loc main_arg16) :=
  (block16 m c t).trans (V_main_arg16 m c)

/-- Row `r` of the kernel's readouts is row `r` of the reference's. -/
theorem readouts_apply (c : Dev nD) (r : Fin 128) (d : Fin 64) :
    readouts m c (ix2 r d) = Cert.ReferenceIdeal.Layers.readouts (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 r d) := by
  have hp : (ptOf r).val * 16 + r.val % 16 = r.val := by show r.val / 16 * 16 + r.val % 16 = r.val; omega
  have hG : (ptOf r).val * 16 + r.val % 16 < 128 := by omega
  have hr : (⟨(ptOf r).val * 16 + r.val % 16, hG⟩ : Fin 128) = r := Fin.ext hp
  have key := Pure.graphRow_eq r (iblk m c 0 (ptOf r)) (iblk m c 1 (ptOf r)) (iblk m c 2 (ptOf r)) (iblk m c 3 (ptOf r)) (iblk m c 4 (ptOf r))
    (iblk m c 5 (ptOf r)) (iblk m c 6 (ptOf r)) (iblk m c 7 (ptOf r)) (iblk m c 8 (ptOf r)) (r.val % 16) (Nat.mod_lt _ (by decide))
    (m ((c : Thread nD τ).loc main_arg1)) (m ((c : Thread nD τ).loc main_arg2)) (m ((c : Thread nD τ).loc main_arg0)) (m ((c : Thread nD τ).loc main_arg4)) (m ((c : Thread nD τ).loc main_arg5)) (m ((c : Thread nD τ).loc main_arg7)) (m ((c : Thread nD τ).loc main_arg9))
    (fun n j k => by
      refine (block0 m c (ptOf r) ⟨r.val % 16, _⟩ _ _ hG).trans ?_
      rw [hr]
      exact entry0 m c r n j k _ _)
    (fun n j => by
      refine (block1 m c (ptOf r) ⟨r.val % 16, _⟩ n j hG).trans ?_
      rw [hr])
    (fun n l => by
      refine (block2 m c (ptOf r) ⟨r.val % 16, _⟩ n l hG).trans ?_
      rw [hr])
    (fun k l => (congrFun (block3 m c (ptOf r)) _).trans (entry3 m c k l))
    ((congrFun (block4 m c (ptOf r)) _).trans (entry4 m c 0))
    (fun l => (congrFun (block6 m c (ptOf r)) _).trans (entry6 m c l))
    (fun l => (congrFun (block8 m c (ptOf r)) _).trans (entry8 m c l)) d
  rw [operand5 m c, operand7 m c] at key
  unfold readouts rowsAt
  rw [operand5 m c, operand7 m c]
  exact key

/-- The kernel's result is the reference's critic head of the reference's readouts, of the kernel's arguments. -/
theorem result_eq (c : Dev nD) : result m c
    = Cert.ReferenceIdeal.Layers.critic (F := Ideal)
        (Cert.ReferenceIdeal.Layers.readouts (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
        (m ((c : Thread nD τ).loc main_arg3)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hr : readouts m c = Cert.ReferenceIdeal.Layers.readouts (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
    funext y
    idx_vars y
    exact readouts_apply m c _ _
  unfold result
  rw [hr, operand9 m c, operand10 m c, operand12 m c, operand14 m c, operand16 m c]
  funext y
  idx_vars y
  exact Pure.critic_eq _ _ _ _ _ _ _ _ _ _ _ _ _ _
    (fun l => (congrFun (block11 m c lastPt) _).trans (entry11 m c l)) (fun l => (congrFun (block13 m c lastPt) _).trans (entry13 m c l))
    (fun l => (congrFun (block15 m c lastPt) _).trans (entry15 m c l)) ((congrFun (block17 m c lastPt) _).trans (entry17 m c 0)) _ _

end Cert.KernelIdeal.Encoder

end
-- ==== Proof.Same.lean ====
/- The kernel and the idealized kernel are one program, printed twice: no rewrite applies to it. The proofs about the
   idealized kernel hold at any float values, and so those about its run carry over to the kernel. -/
module

public import proofs.«01_k».proof.Defs
public import proofs.«01_k».proof.Proof.Gen.Kernel
public import proofs.«01_k».proof.Proof.Result

@[expose] public section

set_option maxRecDepth 16384

noncomputable section

namespace Cert.Same

open Idealize.ShloMosaic Idealize.SL.Sem

/-- The two bodies agree. -/
theorem body_eq : @Cert.Kernel.cc0__body Bits _ _ = @Cert.KernelIdeal.cc0__body Bits _ _ := by
  with_unfolding_all rfl

set_option maxHeartbeats 4000000 in
/-- The two body tables agree: each runs its body on the same staging buffers. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    generalize hf : @Cert.Kernel.cc0__body Bits _ _ = f
    generalize hg : @Cert.KernelIdeal.cc0__body Bits _ _ = g
    have h : f = g := hf.symm.trans (body_eq.trans hg)
    clear hf hg
    subst h
    with_unfolding_all rfl

/-- So do the tables with the pipelines. -/
theorem defs_eq : Cert.Kernel.defs (F := Bits) = Cert.KernelIdeal.defs (F := Bits) :=
  congrArg (Pipeline.defs (Cert.Kernel.pcfgs (F := Bits))) defs₀_eq

/-- The two main programs agree. -/
theorem main_eq : Cert.Kernel.main (F := Bits) = Cert.KernelIdeal.main (F := Bits) := by
  with_unfolding_all rfl

set_option maxHeartbeats 4000000 in
/-- The kernel runs, leaves its arguments and no semaphore counting, as the idealized kernel does. -/
theorem frame_kernel : Cert.quiescent_Kernel := fun m g _ => by
  have hd := defs_eq
  have hm := main_eq
  have h := Cert.KernelIdeal.Encoder.run_frame (F := Bits) m g
  generalize Cert.KernelIdeal.defs (F := Bits) = d at hd h
  generalize Cert.KernelIdeal.main (F := Bits) = p at hm h
  subst hd
  subst hm
  exact h

end Cert.Same

end
-- ==== Proof.lean ====
/- The claims, from the kernel's run (Proof/Result.lean), the kernel's identity
   with its idealization (Proof/Same.lean), the reference's run and their equal results (Proof/Equal.lean). -/
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Equal
public import proofs.«01_k».proof.Proof.Same
public import Idealize.ShloMosaic.Lib.Quiescent

@[expose] public section

noncomputable section

namespace Cert.Proof

open Idealize.ShloMosaic Idealize.SL.Sem

/-- The idealized kernel runs, leaves its arguments and no semaphore counting. -/
theorem frame_ideal : Cert.quiescent_KernelIdeal := fun m g _ =>
  Cert.KernelIdeal.Encoder.run_frame m g

/-- The reference runs, leaves its arguments and no semaphore counting: it declares none. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Idealizing the kernel rewrote nothing. -/
theorem preserves : Cert.preserves_Kernel_KernelIdeal := trivial

/-- Over the extended reals the kernel and the reference end with equal results. -/
theorem algebraic : Cert.algebraic_KernelIdeal_ReferenceIdeal := by
  intro m g m' g' hpre hargs
  refine ⟨fun c => Cert.KernelIdeal.Encoder.result m c, ?_, ?_⟩
  · exact (θ_run Cert.KernelIdeal.defs _ _).mono (fun _ h c => ⟨h.1 c, h.2.1 c⟩)
      (θ_run_and (Cert.KernelIdeal.Encoder.run m g) (frame_ideal m g hpre))
  · refine (θ_run Cert.ReferenceIdeal.defs _ _).mono (fun _ h c => ⟨(h c).1.trans ?_, (h c).2⟩)
      (Cert.ReferenceIdeal.Value.run (F := Ideal) m' g')
    obtain ⟨h0, h1, h2, h3, h4, h5, h6, h7, h8, h9, h10, h11, h12, h13, h14, h15, h16, h17⟩ := hargs c
    rw [Cert.ReferenceIdeal.Layers.result_eq, h0, h1, h2, h3, h4, h5, h6, h7, h8, h9, h10, h11, h12, h13, h14, h15, h16, h17]
    exact (Cert.KernelIdeal.Encoder.result_eq m c).symm

/-- All five claims. -/
theorem claim : Cert.Claim :=
  ⟨Cert.Kernel.Gen.facts, Cert.KernelIdeal.Gen.facts, Cert.ReferenceIdeal.Gen.facts,
    Cert.Same.frame_kernel, frame_ideal, frame_reference, preserves, algebraic⟩

end Cert.Proof

end
